-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "inv_cells" .f32 0x382AAAAB#32 ((24576⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x32 : Shape := ⟨3, ![1, 4096, 32]⟩
abbrev S1x12288x32 : Shape := ⟨3, ![1, 12288, 32]⟩
abbrev S1x8192x32 : Shape := ⟨3, ![1, 8192, 32]⟩
abbrev S4096x12288 : Shape := ⟨2, ![4096, 12288]⟩
abbrev S12288x8192 : Shape := ⟨2, ![12288, 8192]⟩
abbrev S64x32 : Shape := ⟨2, ![64, 32]⟩
abbrev S64 : Shape := ⟨1, ![64]⟩
abbrev S64x64 : Shape := ⟨2, ![64, 64]⟩
abbrev S4096x32 : Shape := ⟨2, ![4096, 32]⟩
abbrev S12288x32 : Shape := ⟨2, ![12288, 32]⟩
abbrev S8192x32 : Shape := ⟨2, ![8192, 32]⟩
abbrev S32x64 : Shape := ⟨2, ![32, 64]⟩
abbrev S1x64 : Shape := ⟨2, ![1, 64]⟩
abbrev S3x256x8192 : Shape := ⟨3, ![3, 256, 8192]⟩
abbrev S3x128x12288 : Shape := ⟨3, ![3, 128, 12288]⟩
abbrev S3 : Shape := ⟨1, ![3]⟩
abbrev S1 : Shape := ⟨1, ![1]⟩
abbrev S_ : Shape := ⟨0, ![]⟩
abbrev S1x256x8192 : Shape := ⟨3, ![1, 256, 8192]⟩
abbrev S256x8192 : Shape := ⟨2, ![256, 8192]⟩
abbrev S1x128x12288 : Shape := ⟨3, ![1, 128, 12288]⟩
abbrev S128x12288 : Shape := ⟨2, ![128, 12288]⟩
abbrev S8192x64 : Shape := ⟨2, ![8192, 64]⟩
abbrev S256x32 : Shape := ⟨2, ![256, 32]⟩
abbrev S256x64 : Shape := ⟨2, ![256, 64]⟩
abbrev S128x32 : Shape := ⟨2, ![128, 32]⟩
abbrev S128x64 : Shape := ⟨2, ![128, 64]⟩

abbrev nBuf : Space → Nat
  | .hbm => 33
  | .vmem => 19
  | .smem => 0
  | _ => 0

abbrev bufTy : (tb : Table) → Fin (tcTables nBuf tb) → BufTy
  | .hbm, ⟨0, _⟩ => ⟨S1x4096x32, .f32⟩
  | .hbm, ⟨1, _⟩ => ⟨S1x12288x32, .f32⟩
  | .hbm, ⟨2, _⟩ => ⟨S1x8192x32, .f32⟩
  | .hbm, ⟨3, _⟩ => ⟨S4096x12288, .f32⟩
  | .hbm, ⟨4, _⟩ => ⟨S12288x8192, .f32⟩
  | .hbm, ⟨5, _⟩ => ⟨S64x32, .f32⟩
  | .hbm, ⟨6, _⟩ => ⟨S64, .f32⟩
  | .hbm, ⟨7, _⟩ => ⟨S64x32, .f32⟩
  | .hbm, ⟨8, _⟩ => ⟨S64, .f32⟩
  | .hbm, ⟨9, _⟩ => ⟨S64x32, .f32⟩
  | .hbm, ⟨10, _⟩ => ⟨S64, .f32⟩
  | .hbm, ⟨11, _⟩ => ⟨S64x32, .f32⟩
  | .hbm, ⟨12, _⟩ => ⟨S64, .f32⟩
  | .hbm, ⟨13, _⟩ => ⟨S64x32, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S4096x32, .f32⟩
  | .hbm, ⟨18, _⟩ => ⟨S12288x32, .f32⟩
  | .hbm, ⟨19, _⟩ => ⟨S8192x32, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S64x64, .f32⟩
  | .hbm, ⟨31, _⟩ => ⟨S1x64, .f32⟩
  | .hbm, ⟨32, _⟩ => ⟨S1x64, .f32⟩
  | .local _ .vmem, ⟨0, _⟩ => ⟨S4096x32, .f32⟩
  | .local _ .vmem, ⟨1, _⟩ => ⟨S12288x32, .f32⟩
  | .local _ .vmem, ⟨2, _⟩ => ⟨S8192x32, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S32x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S1x64, .f32⟩
  | .local _ .vmem, ⟨16, _⟩ => ⟨S3x256x8192, .f32⟩
  | .local _ .vmem, ⟨17, _⟩ => ⟨S3x128x12288, .f32⟩
  | .local _ .vmem, ⟨18, _⟩ => ⟨S1x64, .f32⟩
  | _, _ => ⟨S1x4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

@[reducible] def k0_t1_loop : Scf.Loop 32 :=
  let c0_i32_40 : BitVec 32 := 0#32
  let c48_i32 : BitVec 32 := 48#32
  let v49 : BitVec 32 := Scalar.addi c0_i32_40 c48_i32
  let c1_i32_41 : BitVec 32 := 1#32
  ⟨c0_i32_40, v49, c1_i32_41⟩
def k0_off1 (k0_t1 : Fin k0_t1_loop.trips) : Fin 1 → Nat :=
  let c0_i32_40 : BitVec 32 := 0#32
  let c1_i32_41 : BitVec 32 := 1#32
  let arg23 : BitVec 32 := Scf.iv c0_i32_40 c1_i32_41 k0_t1
  let c3_i32 : BitVec 32 := 3#32
  let v63 : BitVec 32 := Scalar.remsi arg23 c3_i32
  ![v63.toNat]
def k0_off2 (k0_t1 : Fin k0_t1_loop.trips) : Fin 3 → Nat :=
  let c0_i32_40 : BitVec 32 := 0#32
  let c1_i32_41 : BitVec 32 := 1#32
  let arg23 : BitVec 32 := Scf.iv c0_i32_40 c1_i32_41 k0_t1
  let c3_i32 : BitVec 32 := 3#32
  let v63 : BitVec 32 := Scalar.remsi arg23 c3_i32
  let c0_i32_58 : BitVec 32 := 0#32
  let c0_i32_59 : BitVec 32 := 0#32
  ![v63.toNat, 0, 0]
def k0_off3 (k0_t1 : Fin k0_t1_loop.trips) : Fin 2 → Nat :=
  let c0_i32_40 : BitVec 32 := 0#32
  let c1_i32_41 : BitVec 32 := 1#32
  let arg23 : BitVec 32 := Scf.iv c0_i32_40 c1_i32_41 k0_t1
  let c256_i32_57 : BitVec 32 := 256#32
  let v64 : BitVec 32 := Scalar.muli arg23 c256_i32_57
  let c0_i32_60 : BitVec 32 := 0#32
  ![v64.toNat, 0]
def k0_off4 (k0_t1 : Fin k0_t1_loop.trips) : Fin 3 → Nat :=
  let c0_i32_40 : BitVec 32 := 0#32
  let c1_i32_41 : BitVec 32 := 1#32
  let arg23 : BitVec 32 := Scf.iv c0_i32_40 c1_i32_41 k0_t1
  let c3_i32 : BitVec 32 := 3#32
  let v63 : BitVec 32 := Scalar.remsi arg23 c3_i32
  let v70 : Index := Scalar.indexCast v63
  let c0_61 : Index := 0#32
  let c0_62 : Index := 0#32
  ![v70.toNat, 0, 0]
def k0_off5 (k0_t1 : Fin k0_t1_loop.trips) : Fin 2 → Nat :=
  let c0_i32_40 : BitVec 32 := 0#32
  let c1_i32_41 : BitVec 32 := 1#32
  let arg23 : BitVec 32 := Scf.iv c0_i32_40 c1_i32_41 k0_t1
  let c256_i32_66 : BitVec 32 := 256#32
  let v76 : BitVec 32 := Scalar.muli arg23 c256_i32_66
  let v77 : Index := Scalar.indexCast v76
  let c0_67 : Index := 0#32
  ![v77.toNat, 0]
def k0_cond1 (k0_t1 : Fin k0_t1_loop.trips) : BitVec 1 :=
  let c0_i32_40 : BitVec 32 := 0#32
  let c1_i32_41 : BitVec 32 := 1#32
  let arg23 : BitVec 32 := Scf.iv c0_i32_40 c1_i32_41 k0_t1
  let c3_i32_85 : BitVec 32 := 3#32
  let v107 : BitVec 32 := Scalar.addi arg23 c3_i32_85
  let c48_i32_86 : BitVec 32 := 48#32
  let v108 : BitVec 1 := Scalar.cmpi .slt v107 c48_i32_86
  let v109 : BitVec 32 := Scalar.extui v108
  let c0_i32_87 : BitVec 32 := 0#32
  let v110 : BitVec 1 := Scalar.cmpi .ne v109 c0_i32_87
  v110

def k0_off6 (k0_t1 : Fin k0_t1_loop.trips) : Fin 1 → Nat :=
  let c0_i32_40 : BitVec 32 := 0#32
  let c1_i32_41 : BitVec 32 := 1#32
  let arg23 : BitVec 32 := Scf.iv c0_i32_40 c1_i32_41 k0_t1
  let c3_i32 : BitVec 32 := 3#32
  let v63 : BitVec 32 := Scalar.remsi arg23 c3_i32
  ![v63.toNat]
def k0_off7 (k0_t1 : Fin k0_t1_loop.trips) : Fin 3 → Nat :=
  let c0_i32_40 : BitVec 32 := 0#32
  let c1_i32_41 : BitVec 32 := 1#32
  let arg23 : BitVec 32 := Scf.iv c0_i32_40 c1_i32_41 k0_t1
  let c3_i32 : BitVec 32 := 3#32
  let v63 : BitVec 32 := Scalar.remsi arg23 c3_i32
  let c0_i32_90 : BitVec 32 := 0#32
  let c0_i32_91 : BitVec 32 := 0#32
  ![v63.toNat, 0, 0]
def k0_off8 (k0_t1 : Fin k0_t1_loop.trips) : Fin 2 → Nat :=
  let c0_i32_40 : BitVec 32 := 0#32
  let c1_i32_41 : BitVec 32 := 1#32
  let arg23 : BitVec 32 := Scf.iv c0_i32_40 c1_i32_41 k0_t1
  let c3_i32_88 : BitVec 32 := 3#32
  let v111 : BitVec 32 := Scalar.addi arg23 c3_i32_88
  let c256_i32_89 : BitVec 32 := 256#32
  let v112 : BitVec 32 := Scalar.muli v111 c256_i32_89
  let c0_i32_92 : BitVec 32 := 0#32
  ![v112.toNat, 0]
@[reducible] def k0_t2_loop : Scf.Loop 32 :=
  let c0_i32_43 : BitVec 32 := 0#32
  let c32_i32 : BitVec 32 := 32#32
  let v50 : BitVec 32 := Scalar.addi c0_i32_43 c32_i32
  let c1_i32_44 : BitVec 32 := 1#32
  ⟨c0_i32_43, v50, c1_i32_44⟩
def k0_off9 (k0_t2 : Fin k0_t2_loop.trips) : Fin 1 → Nat :=
  let c0_i32_43 : BitVec 32 := 0#32
  let c1_i32_44 : BitVec 32 := 1#32
  let arg23 : BitVec 32 := Scf.iv c0_i32_43 c1_i32_44 k0_t2
  let c3_i32 : BitVec 32 := 3#32
  let v63 : BitVec 32 := Scalar.remsi arg23 c3_i32
  ![v63.toNat]
def k0_off10 (k0_t2 : Fin k0_t2_loop.trips) : Fin 3 → Nat :=
  let c0_i32_43 : BitVec 32 := 0#32
  let c1_i32_44 : BitVec 32 := 1#32
  let arg23 : BitVec 32 := Scf.iv c0_i32_43 c1_i32_44 k0_t2
  let c3_i32 : BitVec 32 := 3#32
  let v63 : BitVec 32 := Scalar.remsi arg23 c3_i32
  let c0_i32_58 : BitVec 32 := 0#32
  let c0_i32_59 : BitVec 32 := 0#32
  ![v63.toNat, 0, 0]
def k0_off11 (k0_t2 : Fin k0_t2_loop.trips) : Fin 2 → Nat :=
  let c0_i32_43 : BitVec 32 := 0#32
  let c1_i32_44 : BitVec 32 := 1#32
  let arg23 : BitVec 32 := Scf.iv c0_i32_43 c1_i32_44 k0_t2
  let c128_i32_57 : BitVec 32 := 128#32
  let v64 : BitVec 32 := Scalar.muli arg23 c128_i32_57
  let c0_i32_60 : BitVec 32 := 0#32
  ![v64.toNat, 0]
def k0_off12 (k0_t2 : Fin k0_t2_loop.trips) : Fin 3 → Nat :=
  let c0_i32_43 : BitVec 32 := 0#32
  let c1_i32_44 : BitVec 32 := 1#32
  let arg23 : BitVec 32 := Scf.iv c0_i32_43 c1_i32_44 k0_t2
  let c3_i32 : BitVec 32 := 3#32
  let v63 : BitVec 32 := Scalar.remsi arg23 c3_i32
  let v70 : Index := Scalar.indexCast v63
  let c0_61 : Index := 0#32
  let c0_62 : Index := 0#32
  ![v70.toNat, 0, 0]
def k0_off13 (k0_t2 : Fin k0_t2_loop.trips) : Fin 2 → Nat :=
  let c0_i32_43 : BitVec 32 := 0#32
  let c1_i32_44 : BitVec 32 := 1#32
  let arg23 : BitVec 32 := Scf.iv c0_i32_43 c1_i32_44 k0_t2
  let c128_i32_66 : BitVec 32 := 128#32
  let v76 : BitVec 32 := Scalar.muli arg23 c128_i32_66
  let v77 : Index := Scalar.indexCast v76
  let c0_67 : Index := 0#32
  ![v77.toNat, 0]
def k0_cond2 (k0_t2 : Fin k0_t2_loop.trips) : BitVec 1 :=
  let c0_i32_43 : BitVec 32 := 0#32
  let c1_i32_44 : BitVec 32 := 1#32
  let arg23 : BitVec 32 := Scf.iv c0_i32_43 c1_i32_44 k0_t2
  let c3_i32_85 : BitVec 32 := 3#32
  let v107 : BitVec 32 := Scalar.addi arg23 c3_i32_85
  let c32_i32_86 : BitVec 32 := 32#32
  let v108 : BitVec 1 := Scalar.cmpi .slt v107 c32_i32_86
  let v109 : BitVec 32 := Scalar.extui v108
  let c0_i32_87 : BitVec 32 := 0#32
  let v110 : BitVec 1 := Scalar.cmpi .ne v109 c0_i32_87
  v110

def k0_off14 (k0_t2 : Fin k0_t2_loop.trips) : Fin 1 → Nat :=
  let c0_i32_43 : BitVec 32 := 0#32
  let c1_i32_44 : BitVec 32 := 1#32
  let arg23 : BitVec 32 := Scf.iv c0_i32_43 c1_i32_44 k0_t2
  let c3_i32 : BitVec 32 := 3#32
  let v63 : BitVec 32 := Scalar.remsi arg23 c3_i32
  ![v63.toNat]
def k0_off15 (k0_t2 : Fin k0_t2_loop.trips) : Fin 3 → Nat :=
  let c0_i32_43 : BitVec 32 := 0#32
  let c1_i32_44 : BitVec 32 := 1#32
  let arg23 : BitVec 32 := Scf.iv c0_i32_43 c1_i32_44 k0_t2
  let c3_i32 : BitVec 32 := 3#32
  let v63 : BitVec 32 := Scalar.remsi arg23 c3_i32
  let c0_i32_90 : BitVec 32 := 0#32
  let c0_i32_91 : BitVec 32 := 0#32
  ![v63.toNat, 0, 0]
def k0_off16 (k0_t2 : Fin k0_t2_loop.trips) : Fin 2 → Nat :=
  let c0_i32_43 : BitVec 32 := 0#32
  let c1_i32_44 : BitVec 32 := 1#32
  let arg23 : BitVec 32 := Scf.iv c0_i32_43 c1_i32_44 k0_t2
  let c3_i32_88 : BitVec 32 := 3#32
  let v111 : BitVec 32 := Scalar.addi arg23 c3_i32_88
  let c128_i32_89 : BitVec 32 := 128#32
  let v112 : BitVec 32 := Scalar.muli v111 c128_i32_89
  let c0_i32_92 : BitVec 32 := 0#32
  ![v112.toNat, 0]
abbrev stage0_0 : Fin 1 → Memref sig .tc .vmem S4096x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== KernelIdeal.lean ====
variable {F : FTy → Type} [FloatOps F] [Named F]
def κ : String → Option EReal := fun
  | "inv_cells" => some ((24576⁻¹ : ℝ) : EReal)
  | _ => none
-- ==== ReferenceIdeal.lean ====
abbrev S1x4096x32 : Shape := ⟨3, ![1, 4096, 32]⟩
abbrev S1x12288x32 : Shape := ⟨3, ![1, 12288, 32]⟩
abbrev S1x8192x32 : Shape := ⟨3, ![1, 8192, 32]⟩
abbrev S4096x12288 : Shape := ⟨2, ![4096, 12288]⟩
abbrev S12288x8192 : Shape := ⟨2, ![12288, 8192]⟩
abbrev S64x32 : Shape := ⟨2, ![64, 32]⟩
abbrev S64 : Shape := ⟨1, ![64]⟩
abbrev S64x64 : Shape := ⟨2, ![64, 64]⟩
abbrev S12288x1x32 : Shape := ⟨3, ![12288, 1, 32]⟩
abbrev S32x64 : Shape := ⟨2, ![32, 64]⟩
abbrev S1x12288x64 : Shape := ⟨3, ![1, 12288, 64]⟩
abbrev S1x1x64 : Shape := ⟨3, ![1, 1, 64]⟩
abbrev S_ : Shape := ⟨0, ![]⟩
abbrev S4096x1x32 : Shape := ⟨3, ![4096, 1, 32]⟩
abbrev S1x4096x64 : Shape := ⟨3, ![1, 4096, 64]⟩
abbrev S1x8192x64 : Shape := ⟨3, ![1, 8192, 64]⟩
abbrev S1x24576x64 : Shape := ⟨3, ![1, 24576, 64]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S1x4096x32, .f32⟩
  | .hbm, ⟨1, _⟩ => ⟨S1x12288x32, .f32⟩
  | .hbm, ⟨2, _⟩ => ⟨S1x8192x32, .f32⟩
  | .hbm, ⟨3, _⟩ => ⟨S4096x12288, .f32⟩
  | .hbm, ⟨4, _⟩ => ⟨S12288x8192, .f32⟩
  | .hbm, ⟨5, _⟩ => ⟨S64x32, .f32⟩
  | .hbm, ⟨6, _⟩ => ⟨S64, .f32⟩
  | .hbm, ⟨7, _⟩ => ⟨S64x32, .f32⟩
  | .hbm, ⟨8, _⟩ => ⟨S64, .f32⟩
  | .hbm, ⟨9, _⟩ => ⟨S64x32, .f32⟩
  | .hbm, ⟨10, _⟩ => ⟨S64, .f32⟩
  | .hbm, ⟨11, _⟩ => ⟨S64x32, .f32⟩
  | .hbm, ⟨12, _⟩ => ⟨S64, .f32⟩
  | .hbm, ⟨13, _⟩ => ⟨S64x32, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S12288x1x32, .f32⟩
  | .hbm, ⟨18, _⟩ => ⟨S1x12288x32, .f32⟩
  | .hbm, ⟨19, _⟩ => ⟨S32x64, .f32⟩
  | .hbm, ⟨20, _⟩ => ⟨S1x12288x64, .f32⟩
  | .hbm, ⟨21, _⟩ => ⟨S1x1x64, .f32⟩
  | .hbm, ⟨22, _⟩ => ⟨S1x12288x64, .f32⟩
  | .hbm, ⟨23, _⟩ => ⟨S1x12288x64, .f32⟩
  | .hbm, ⟨24, _⟩ => ⟨S32x64, .f32⟩
  | .hbm, ⟨25, _⟩ => ⟨S1x12288x64, .f32⟩
  | .hbm, ⟨26, _⟩ => ⟨S1x12288x64, .f32⟩
  | .hbm, ⟨27, _⟩ => ⟨S1x1x64, .f32⟩
  | .hbm, ⟨28, _⟩ => ⟨S1x12288x64, .f32⟩
  | .hbm, ⟨29, _⟩ => ⟨S1x12288x64, .f32⟩
  | .hbm, ⟨30, _⟩ => ⟨S_, .f32⟩
  | .hbm, ⟨31, _⟩ => ⟨S1x12288x64, .f32⟩
  | .hbm, ⟨32, _⟩ => ⟨S1x12288x64, .i1⟩
  | .hbm, ⟨33, _⟩ => ⟨S_, .f32⟩
  | .hbm, ⟨34, _⟩ => ⟨S1x12288x64, .f32⟩
  | .hbm, ⟨35, _⟩ => ⟨S1x12288x64, .f32⟩
  | .hbm, ⟨36, _⟩ => ⟨S1x12288x64, .f32⟩
  | .hbm, ⟨37, _⟩ => ⟨S4096x1x32, .f32⟩
  | .hbm, ⟨38, _⟩ => ⟨S1x4096x32, .f32⟩
  | .hbm, ⟨39, _⟩ => ⟨S32x64, .f32⟩
  | .hbm, ⟨40, _⟩ => ⟨S1x4096x64, .f32⟩
  | .hbm, ⟨41, _⟩ => ⟨S1x1x64, .f32⟩
  | .hbm, ⟨42, _⟩ => ⟨S1x4096x64, .f32⟩
  | .hbm, ⟨43, _⟩ => ⟨S1x4096x64, .f32⟩
  | .hbm, ⟨44, _⟩ => ⟨S32x64, .f32⟩
  | .hbm, ⟨45, _⟩ => ⟨S1x4096x64, .f32⟩
  | .hbm, ⟨46, _⟩ => ⟨S1x4096x64, .f32⟩
  | .hbm, ⟨47, _⟩ => ⟨S1x1x64, .f32⟩
  | .hbm, ⟨48, _⟩ => ⟨S1x4096x64, .f32⟩
  | .hbm, ⟨49, _⟩ => ⟨S1x4096x64, .f32⟩
  | .hbm, ⟨50, _⟩ => ⟨S_, .f32⟩
  | .hbm, ⟨51, _⟩ => ⟨S1x4096x64, .f32⟩
  | .hbm, ⟨52, _⟩ => ⟨S1x4096x64, .i1⟩
  | .hbm, ⟨53, _⟩ => ⟨S_, .f32⟩
  | .hbm, ⟨54, _⟩ => ⟨S1x4096x64, .f32⟩
  | .hbm, ⟨55, _⟩ => ⟨S1x4096x64, .f32⟩
  | .hbm, ⟨56, _⟩ => ⟨S1x4096x64, .f32⟩
  | .hbm, ⟨57, _⟩ => ⟨S32x64, .f32⟩
  | .hbm, ⟨58, _⟩ => ⟨S1x8192x64, .f32⟩
  | .hbm, ⟨59, _⟩ => ⟨S1x1x64, .f32⟩
  | .hbm, ⟨60, _⟩ => ⟨S1x8192x64, .f32⟩
  | .hbm, ⟨61, _⟩ => ⟨S1x8192x64, .f32⟩
  | .hbm, ⟨62, _⟩ => ⟨S_, .f32⟩
  | .hbm, ⟨63, _⟩ => ⟨S1x8192x64, .f32⟩
  | .hbm, ⟨64, _⟩ => ⟨S1x8192x64, .i1⟩
  | .hbm, ⟨65, _⟩ => ⟨S_, .f32⟩
  | .hbm, ⟨66, _⟩ => ⟨S1x8192x64, .f32⟩
  | .hbm, ⟨67, _⟩ => ⟨S1x8192x64, .f32⟩
  | .hbm, ⟨68, _⟩ => ⟨S1x8192x64, .f32⟩
  | .hbm, ⟨69, _⟩ => ⟨S1x24576x64, .f32⟩
  | .hbm, ⟨70, _⟩ => ⟨S_, .f32⟩
  | .hbm, ⟨71, _⟩ => ⟨S1x64, .f32⟩
  | .hbm, ⟨72, _⟩ => ⟨S_, .f32⟩
  | .hbm, ⟨73, _⟩ => ⟨S1x64, .f32⟩
  | .hbm, ⟨74, _⟩ => ⟨S1x64, .f32⟩
  | .hbm, ⟨75, _⟩ => ⟨S_, .f32⟩
  | .hbm, ⟨76, _⟩ => ⟨S1x64, .f32⟩
  | .hbm, ⟨77, _⟩ => ⟨S1x64, .f32⟩
  | .hbm, ⟨78, _⟩ => ⟨S64x64, .f32⟩
  | .hbm, ⟨79, _⟩ => ⟨S1x64, .f32⟩
  | .hbm, ⟨80, _⟩ => ⟨S1x64, .f32⟩
  | .hbm, ⟨81, _⟩ => ⟨S1x64, .f32⟩
  | _, _ => ⟨S1x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_1 : Ref sig .tc := ⟨.hbm, 50, rfl⟩
abbrev main_v31 : Ref sig .tc := ⟨.hbm, 51, rfl⟩
abbrev main_v32 : Ref sig .tc := ⟨.hbm, 52, rfl⟩
abbrev main_cst_2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_3 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_5 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== Proof.PI.Names.lean ====
/-
  Names for the two rings of transfers the kernel keeps in flight: the row blocks of the two incidence matrices in HBM, the
  slots of the two VMEM buffers they land in, the slots' semaphores; and the equations by which the program's own slices are
  these names.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring.Trips
public import Idealize.ShloMosaic.Lib.Tactic

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- What a grid-less launch owns beside its memory: the pipeline's own cells and the counters the kernel's transfers ride on. -/
abbrev UU (nD : Nat) (τ : Topo) : Type := UR sig nD τ × Counters

variable {F : FTy → Type} [FloatOps F] [Named F]

local notation "𝕄" => MT nD τ sig Unit (Elt F) ℕ (UU nD τ) ℕ

/-- No loop of the program is by a variant. -/
abbrev noVariants : Variants := Variants.none

/-- Block three steps after block `k` lands in block `k`'s slot. -/
theorem turn (k : ℕ) : Ring.sl 3 (k + 1 + 1 + 1) = Ring.sl 3 k := Ring.sl_add 3 k

/-! ## The edge ring -/

/-- The matrix left in HBM that the edge ring streams, -/
abbrev hbmE : Memref sig .tc .hbm S12288x8192 .f32 := Memref.whole main_arg4
/-- and the buffer of three slots it lands in. -/
abbrev bufE : Memref sig .tc .vmem S3x256x8192 .f32 := Memref.whole cc0_scratch0

/-- Block `b`'s rows lie in the matrix. -/
theorem rowsE_inb (b : Fin 48) : ∀ a, (![256 * b.val, 0] : Fin 2 → Nat) a + S256x8192.size a ≤ S12288x8192.size a := by
  intro a; have := b.isLt; fin_cases a
  · show 256 * b.val + 256 ≤ 12288; omega
  · show 0 + 8192 ≤ 8192; omega
/-- Slot `s` lies in the buffer. -/
theorem slotE_inb (s : Fin 3) : ∀ a, (![s.val, 0, 0] : Fin 3 → Nat) a + S1x256x8192.size a ≤ S3x256x8192.size a := by
  intro a; have := s.isLt; fin_cases a
  · show s.val + 1 ≤ 3; omega
  · show 0 + 256 ≤ 256; omega
  · show 0 + 8192 ≤ 8192; omega
/-- Slot `s`'s semaphore lies in the array of semaphores. -/
theorem cellE_inb (s : Fin 3) : ∀ a, (![s.val] : Fin 1 → Nat) a + S1.size a ≤ S3.size a := by
  intro a; have := s.isLt; fin_cases a; show s.val + 1 ≤ 3; omega

/-- Block `b`: rows `256 b … 256 b + 255` of the matrix. -/
def rowsE (b : Fin 48) : Memref sig .tc .hbm S256x8192 .f32 :=
  hbmE.slice (Rect.unit (s := S12288x8192) ![256 * b.val, 0] S256x8192.size (rowsE_inb b)) (fun _ => rfl)
/-- Slot `s` of the buffer. -/
def slotE (s : Fin 3) : Memref sig .tc .vmem S256x8192 .f32 :=
  (bufE.slice (Rect.unit (s := S3x256x8192) ![s.val, 0, 0] S1x256x8192.size (slotE_inb s)) (fun _ => rfl)).squeeze S256x8192 squeezes_S1x256x8192_S256x8192
/-- Slot `s`'s semaphore. -/
def cellE (s : Fin 3) : DmaSems sig S_ := (cc0_scratch3.slice (Rect.unit (s := S3) ![s.val] S1.size (cellE_inb s))).squeeze S_ squeezes_S1_S_

/-- A slot's offset is written out already. -/
instance (s : Fin 3) : ClosedOff (![s.val, 0, 0] : Fin 3 → Nat) := ⟨_, rfl⟩

/-- A slice of the matrix at block `b`'s offset is block `b`. -/
theorem rowsE_eq {off : Fin 2 → Nat} {b : Fin 48} (e : off = ![256 * b.val, 0]) (hh hs) :
    hbmE.slice (Rect.unit (s := S12288x8192) off S256x8192.size hh) hs = rowsE b := Memref.slice_unit_congr hbmE e hh _ hs (fun _ => rfl)
/-- A slice of the buffer at slot `s`'s offset is slot `s`. -/
theorem slotE_eq {off : Fin 3 → Nat} {s : Fin 3} (e : off = ![s.val, 0, 0]) (hh hs) :
    (bufE.slice (Rect.unit (s := S3x256x8192) off S1x256x8192.size hh) hs).squeeze S256x8192 squeezes_S1x256x8192_S256x8192 = slotE s :=
  congrArg (fun M : Memref sig .tc .vmem S1x256x8192 .f32 => M.squeeze S256x8192 squeezes_S1x256x8192_S256x8192) (Memref.slice_unit_congr bufE e hh _ hs (fun _ => rfl))
/-- A slice of the semaphores at `s` is slot `s`'s semaphore. -/
theorem cellE_eq {off : Fin 1 → Nat} {s : Fin 3} (e : off = ![s.val]) (hh) :
    (cc0_scratch3.slice (Rect.unit (s := S3) off S1.size hh)).squeeze S_ squeezes_S1_S_ = cellE s :=
  congrArg (fun A : DmaSems sig S1 => A.squeeze S_ squeezes_S1_S_) (SemArray.slice_unit_congr _ e _ _)

/-- The number of the loop's trips. -/
theorem tripsE : k0_t1_loop.trips = 48 := by decide
/-- A trip's number is below it. -/
theorem tripE_lt (k : Fin k0_t1_loop.trips) : k.val < 48 := Nat.lt_of_lt_of_eq k.isLt tripsE

/-- The block issued at trip `k` exists exactly when the trip's condition holds. -/
theorem condE : ∀ k : Fin k0_t1_loop.trips, k0_cond1 k = 1#1 ↔ k.val + 3 < 48 := by decide +kernel

/-- The program's slices before the loops, -/
@[sl_canon] theorem cellE_0 (hh) : (cc0_scratch3.slice (Rect.unit (s := S3) ![0] S1.size hh)).squeeze S_ squeezes_S1_S_ = cellE 0 := cellE_eq (s := 0) rfl hh
@[sl_canon] theorem cellE_1 (hh) : (cc0_scratch3.slice (Rect.unit (s := S3) ![1] S1.size hh)).squeeze S_ squeezes_S1_S_ = cellE 1 := cellE_eq (s := 1) rfl hh
@[sl_canon] theorem cellE_2 (hh) : (cc0_scratch3.slice (Rect.unit (s := S3) ![2] S1.size hh)).squeeze S_ squeezes_S1_S_ = cellE 2 := cellE_eq (s := 2) rfl hh
@[sl_canon] theorem slotE_0 (hh hs) : (bufE.slice (Rect.unit (s := S3x256x8192) ![0, 0, 0] S1x256x8192.size hh) hs).squeeze S256x8192 squeezes_S1x256x8192_S256x8192 = slotE 0 := slotE_eq (s := 0) rfl hh hs
@[sl_canon] theorem slotE_1 (hh hs) : (bufE.slice (Rect.unit (s := S3x256x8192) ![1, 0, 0] S1x256x8192.size hh) hs).squeeze S256x8192 squeezes_S1x256x8192_S256x8192 = slotE 1 := slotE_eq (s := 1) rfl hh hs
@[sl_canon] theorem slotE_2 (hh hs) : (bufE.slice (Rect.unit (s := S3x256x8192) ![2, 0, 0] S1x256x8192.size hh) hs).squeeze S256x8192 squeezes_S1x256x8192_S256x8192 = slotE 2 := slotE_eq (s := 2) rfl hh hs
@[sl_canon] theorem rowsE_0 (hh hs) : hbmE.slice (Rect.unit (s := S12288x8192) ![0, 0] S256x8192.size hh) hs = rowsE 0 := rowsE_eq (b := 0) (by decide) hh hs
@[sl_canon] theorem rowsE_1 (hh hs) : hbmE.slice (Rect.unit (s := S12288x8192) ![256, 0] S256x8192.size hh) hs = rowsE 1 := rowsE_eq (b := 1) (by decide) hh hs
@[sl_canon] theorem rowsE_2 (hh hs) : hbmE.slice (Rect.unit (s := S12288x8192) ![512, 0] S256x8192.size hh) hs = rowsE 2 := rowsE_eq (b := 2) (by decide) hh hs

/-- and those of trip `k`: block `k` waited for in slot `k % 3`, block `k + 3` issued into the slot. -/
@[sl_canon] theorem cellE_wait (k : Fin k0_t1_loop.trips) (hh) :
    (cc0_scratch3.slice (Rect.unit (s := S3) (k0_off1 k) S1.size hh)).squeeze S_ squeezes_S1_S_ = cellE (Ring.sl 3 k.val) :=
  cellE_eq ((k0_off1_eq k).trans (by rw [Ring.sl_val])) hh
/-- Trip `k` waits for the slot numbered `k` modulo three. -/
@[sl_canon] theorem slotE_wait (k : Fin k0_t1_loop.trips) (hh hs) :
    (bufE.slice (Rect.unit (s := S3x256x8192) (k0_off2 k) S1x256x8192.size hh) hs).squeeze S256x8192 squeezes_S1x256x8192_S256x8192 = slotE (Ring.sl 3 k.val) :=
  slotE_eq ((k0_off2_eq k).trans (by rw [Ring.sl_val])) hh hs
/-- Trip `k` waits for block `k`. -/
@[sl_canon] theorem rowsE_wait (k : Fin k0_t1_loop.trips) (hh hs) :
    hbmE.slice (Rect.unit (s := S12288x8192) (k0_off3 k) S256x8192.size hh) hs = rowsE (Ring.bk 48 k.val) :=
  rowsE_eq ((k0_off3_eq k).trans (by rw [Ring.bk_val (tripE_lt k)])) hh hs
/-- Trip `k` issues on the semaphore of the slot it has read. -/
@[sl_canon] theorem cellE_issue (k : Fin k0_t1_loop.trips) (hh) :
    (cc0_scratch3.slice (Rect.unit (s := S3) (k0_off6 k) S1.size hh)).squeeze S_ squeezes_S1_S_ = cellE (Ring.sl 3 k.val) :=
  cellE_eq ((k0_off6_eq k).trans (by rw [Ring.sl_val])) hh
/-- Trip `k` issues into the slot it has read. -/
@[sl_canon] theorem slotE_issue (k : Fin k0_t1_loop.trips) (hh hs) :
    (bufE.slice (Rect.unit (s := S3x256x8192) (k0_off7 k) S1x256x8192.size hh) hs).squeeze S256x8192 squeezes_S1x256x8192_S256x8192 = slotE (Ring.sl 3 k.val) :=
  slotE_eq ((k0_off7_eq k).trans (by rw [Ring.sl_val])) hh hs
/-- Trip `k` issues block `k + 3`. -/
@[sl_canon] theorem rowsE_issue (k : Fin k0_t1_loop.trips) (h3 : k.val + 3 < 48) (hh hs) :
    hbmE.slice (Rect.unit (s := S12288x8192) (k0_off8 k) S256x8192.size hh) hs = rowsE (Ring.bk 48 (k.val + 3)) :=
  rowsE_eq ((k0_off8_eq k).trans (by rw [Ring.bk_val h3, Nat.mul_add])) hh hs

/-- The slot a trip reads is the slot the block has landed in. -/
instance (priority := high) (k : Fin k0_t1_loop.trips) : ClosedOff (k0_off4 k) :=
  ⟨![(Ring.sl 3 k.val).val, 0, 0], (k0_off4_eq k).trans (by rw [Ring.sl_val])⟩

/-! ### What a edge block, slot and semaphore are held as -/

section E

variable (c : Dev nD) (M : Buf (Elt F) (hbmE.view.loc (c : Thread nD τ)))

/-- Slot `s`'s semaphore at zero; -/
abbrev atZeroE (s : Fin 3) : sProp 𝕄 := semVal ((c : Thread nD τ), SemLoc.dma (cellE s).sem) 0
/-- slot `s` at contents `f`; -/
abbrev holdsE (s : Fin 3) (f : Buf (Elt F) ((slotE s).view.loc (c : Thread nD τ))) : sProp 𝕄 :=
  (slotE s).view.loc (c : Thread nD τ) ↦[(slotE s).view.set]{fullShare} f
/-- block `b` of the matrix `M`, no transfer reading it. -/
abbrev homeE (b : Fin 48) : sProp 𝕄 := (rowsE b).view.loc (c : Thread nD τ) ↦[(rowsE b).view.set]{fullShare} M
/-- Block `b`'s numbers. -/
abbrev blockE (b : Fin 48) : S256x8192.Idx → Elt F .f32 := ReadAs.same.apply ((rowsE b).view.read (Elt F) M)
/-- Slot `s` once block `b` has been copied over `f`. -/
abbrev landedE (s : Fin 3) (b : Fin 48) (f : Buf (Elt F) ((slotE s).view.loc (c : Thread nD τ))) :
    Buf (Elt F) ((slotE s).view.loc (c : Thread nD τ)) :=
  (slotE s).view.writes (Elt F) f [⟨Rect.whole S256x8192, blockE c M b⟩]
/-- Block `b` on its way into slot `s`: the semaphore's count hands back the slot with the block in it and the block. -/
abbrev flightE (s : Fin 3) (b : Fin 48) (f : Buf (Elt F) ((slotE s).view.loc (c : Thread nD τ))) : sProp 𝕄 :=
  Transfers.Flight countersEmb (c : Thread nD τ) (SemLoc.dma (cellE s).sem) () 262144 iprop(holdsE c s (landedE c M s b f) ∗ homeE c M b)

/-- Slot `s` idle: its semaphore at zero, its contents whatever they are. -/
abbrev idleE (s : Fin 3) : sProp 𝕄 := iprop(atZeroE (F := F) c s ∗ ∃ f, holdsE c s f)
/-- Before trip `p` the slot of block `p`: the block in flight if there is one, else idle. -/
@[irreducible] def roleE (p : ℕ) : sProp 𝕄 :=
  Ring.roleAt (NB := 48) (idleE c (Ring.sl 3 p)) (fun b => iprop(∃ f, flightE c M (Ring.sl 3 p) b f)) p

/-- While there is a block `p`, its slot has it in flight. -/
theorem roleE_flight (p : ℕ) (h : p < 48) : roleE c M p = iprop(∃ f, flightE c M (Ring.sl 3 p) (Ring.bk 48 p) f) := by
  unfold roleE; exact Ring.roleAt_of_lt _ _ p h
/-- Past the last block the slot is idle. -/
theorem roleE_idle (p : ℕ) (h : 48 ≤ p) : roleE c M p = idleE c (Ring.sl 3 p) := by
  unfold roleE; exact Ring.roleAt_of_le _ _ p h

/-- Before trip `k`, block `k + 3` still to be issued: it is home beside the others at home; -/
theorem homesE_here (k : ℕ) (h : k + 3 < 48) :
    bigSep (Ring.homeSet 3 k) (homeE c M)
      = iprop(homeE c M (Ring.bk 48 (k + 3)) ∗ bigSep ((Ring.homeSet 3 k).erase (Ring.bk 48 (k + 3))) (homeE c M)) := by
  conv_lhs => rw [Ring.homeSet_out 3 k h, bigSep_insert (Ring.bkL_not_mem_erase 3 k)]
  rfl
/-- after the trip block `k` has come home and block `k + 3` has gone; -/
theorem homesE_next (k : ℕ) (h : k + 3 < 48) :
    bigSep (Ring.homeSet 3 (k + 1)) (homeE c M)
      = iprop(homeE c M (Ring.bk 48 k) ∗ bigSep ((Ring.homeSet 3 k).erase (Ring.bk 48 (k + 3))) (homeE c M)) := by
  conv_lhs => rw [Ring.homeSet_succ 3 k h, bigSep_insert (Ring.bk_not_mem_erase 3 k (by omega) (by decide))]
  rfl
/-- near the end block `k` comes home and nothing goes. -/
theorem homesE_tail (k : ℕ) (h : 48 ≤ k + 3) (hk : k < 48) :
    bigSep (Ring.homeSet 3 (k + 1)) (homeE c M) = iprop(homeE c M (Ring.bk 48 k) ∗ bigSep (Ring.homeSet 3 k) (homeE c M)) := by
  rw [Ring.homeSet_succ_tail 3 k h hk, bigSep_insert (Ring.bk_not_mem_homeSet 3 k hk (by decide))]; rfl

/-- The slot a trip has waited on, block `b` in it, with block `b'` on its way into it. -/
theorem flightE_after (s : Fin 3) (b b' : Fin 48) :
    flightE c M s b' ((slotE s).view.writes (Elt F) (slotE s).view.junk [⟨Rect.whole S256x8192, blockE c M b⟩])
      = Transfers.Flight countersEmb (c : Thread nD τ) (SemLoc.dma (cellE s).sem) () 262144
          iprop(((slotE s).view.loc (c : Thread nD τ) ↦[(slotE s).view.set]{fullShare}
                  (slotE s).view.writes (Elt F) (slotE s).view.junk [⟨Rect.whole S256x8192, blockE c M b'⟩, ⟨Rect.whole S256x8192, blockE c M b⟩])
                ∗ homeE c M b') := by
  simp only [flightE, landedE, holdsE, View.writes]

end E

/-! ## The vertex ring -/

/-- The matrix left in HBM that the vertex ring streams, -/
abbrev hbmV : Memref sig .tc .hbm S4096x12288 .f32 := Memref.whole main_arg3
/-- and the buffer of three slots it lands in. -/
abbrev bufV : Memref sig .tc .vmem S3x128x12288 .f32 := Memref.whole cc0_scratch1

/-- Block `b`'s rows lie in the matrix. -/
theorem rowsV_inb (b : Fin 32) : ∀ a, (![128 * b.val, 0] : Fin 2 → Nat) a + S128x12288.size a ≤ S4096x12288.size a := by
  intro a; have := b.isLt; fin_cases a
  · show 128 * b.val + 128 ≤ 4096; omega
  · show 0 + 12288 ≤ 12288; omega
/-- Slot `s` lies in the buffer. -/
theorem slotV_inb (s : Fin 3) : ∀ a, (![s.val, 0, 0] : Fin 3 → Nat) a + S1x128x12288.size a ≤ S3x128x12288.size a := by
  intro a; have := s.isLt; fin_cases a
  · show s.val + 1 ≤ 3; omega
  · show 0 + 128 ≤ 128; omega
  · show 0 + 12288 ≤ 12288; omega
/-- Slot `s`'s semaphore lies in the array of semaphores. -/
theorem cellV_inb (s : Fin 3) : ∀ a, (![s.val] : Fin 1 → Nat) a + S1.size a ≤ S3.size a := by
  intro a; have := s.isLt; fin_cases a; show s.val + 1 ≤ 3; omega

/-- Block `b`: rows `128 b … 128 b + 127` of the matrix. -/
def rowsV (b : Fin 32) : Memref sig .tc .hbm S128x12288 .f32 :=
  hbmV.slice (Rect.unit (s := S4096x12288) ![128 * b.val, 0] S128x12288.size (rowsV_inb b)) (fun _ => rfl)
/-- Slot `s` of the buffer. -/
def slotV (s : Fin 3) : Memref sig .tc .vmem S128x12288 .f32 :=
  (bufV.slice (Rect.unit (s := S3x128x12288) ![s.val, 0, 0] S1x128x12288.size (slotV_inb s)) (fun _ => rfl)).squeeze S128x12288 squeezes_S1x128x12288_S128x12288
/-- Slot `s`'s semaphore. -/
def cellV (s : Fin 3) : DmaSems sig S_ := (cc0_scratch4.slice (Rect.unit (s := S3) ![s.val] S1.size (cellV_inb s))).squeeze S_ squeezes_S1_S_

/-- A slot's offset is written out already. -/
instance (s : Fin 3) : ClosedOff (![s.val, 0, 0] : Fin 3 → Nat) := ⟨_, rfl⟩

/-- A slice of the matrix at block `b`'s offset is block `b`. -/
theorem rowsV_eq {off : Fin 2 → Nat} {b : Fin 32} (e : off = ![128 * b.val, 0]) (hh hs) :
    hbmV.slice (Rect.unit (s := S4096x12288) off S128x12288.size hh) hs = rowsV b := Memref.slice_unit_congr hbmV e hh _ hs (fun _ => rfl)
/-- A slice of the buffer at slot `s`'s offset is slot `s`. -/
theorem slotV_eq {off : Fin 3 → Nat} {s : Fin 3} (e : off = ![s.val, 0, 0]) (hh hs) :
    (bufV.slice (Rect.unit (s := S3x128x12288) off S1x128x12288.size hh) hs).squeeze S128x12288 squeezes_S1x128x12288_S128x12288 = slotV s :=
  congrArg (fun M : Memref sig .tc .vmem S1x128x12288 .f32 => M.squeeze S128x12288 squeezes_S1x128x12288_S128x12288) (Memref.slice_unit_congr bufV e hh _ hs (fun _ => rfl))
/-- A slice of the semaphores at `s` is slot `s`'s semaphore. -/
theorem cellV_eq {off : Fin 1 → Nat} {s : Fin 3} (e : off = ![s.val]) (hh) :
    (cc0_scratch4.slice (Rect.unit (s := S3) off S1.size hh)).squeeze S_ squeezes_S1_S_ = cellV s :=
  congrArg (fun A : DmaSems sig S1 => A.squeeze S_ squeezes_S1_S_) (SemArray.slice_unit_congr _ e _ _)

/-- The number of the loop's trips. -/
theorem tripsV : k0_t2_loop.trips = 32 := by decide
/-- A trip's number is below it. -/
theorem tripV_lt (k : Fin k0_t2_loop.trips) : k.val < 32 := Nat.lt_of_lt_of_eq k.isLt tripsV

/-- The block issued at trip `k` exists exactly when the trip's condition holds. -/
theorem condV : ∀ k : Fin k0_t2_loop.trips, k0_cond2 k = 1#1 ↔ k.val + 3 < 32 := by decide +kernel

/-- The program's slices before the loops, -/
@[sl_canon] theorem cellV_0 (hh) : (cc0_scratch4.slice (Rect.unit (s := S3) ![0] S1.size hh)).squeeze S_ squeezes_S1_S_ = cellV 0 := cellV_eq (s := 0) rfl hh
@[sl_canon] theorem cellV_1 (hh) : (cc0_scratch4.slice (Rect.unit (s := S3) ![1] S1.size hh)).squeeze S_ squeezes_S1_S_ = cellV 1 := cellV_eq (s := 1) rfl hh
@[sl_canon] theorem cellV_2 (hh) : (cc0_scratch4.slice (Rect.unit (s := S3) ![2] S1.size hh)).squeeze S_ squeezes_S1_S_ = cellV 2 := cellV_eq (s := 2) rfl hh
@[sl_canon] theorem slotV_0 (hh hs) : (bufV.slice (Rect.unit (s := S3x128x12288) ![0, 0, 0] S1x128x12288.size hh) hs).squeeze S128x12288 squeezes_S1x128x12288_S128x12288 = slotV 0 := slotV_eq (s := 0) rfl hh hs
@[sl_canon] theorem slotV_1 (hh hs) : (bufV.slice (Rect.unit (s := S3x128x12288) ![1, 0, 0] S1x128x12288.size hh) hs).squeeze S128x12288 squeezes_S1x128x12288_S128x12288 = slotV 1 := slotV_eq (s := 1) rfl hh hs
@[sl_canon] theorem slotV_2 (hh hs) : (bufV.slice (Rect.unit (s := S3x128x12288) ![2, 0, 0] S1x128x12288.size hh) hs).squeeze S128x12288 squeezes_S1x128x12288_S128x12288 = slotV 2 := slotV_eq (s := 2) rfl hh hs
@[sl_canon] theorem rowsV_0 (hh hs) : hbmV.slice (Rect.unit (s := S4096x12288) ![0, 0] S128x12288.size hh) hs = rowsV 0 := rowsV_eq (b := 0) (by decide) hh hs
@[sl_canon] theorem rowsV_1 (hh hs) : hbmV.slice (Rect.unit (s := S4096x12288) ![128, 0] S128x12288.size hh) hs = rowsV 1 := rowsV_eq (b := 1) (by decide) hh hs
@[sl_canon] theorem rowsV_2 (hh hs) : hbmV.slice (Rect.unit (s := S4096x12288) ![256, 0] S128x12288.size hh) hs = rowsV 2 := rowsV_eq (b := 2) (by decide) hh hs

/-- and those of trip `k`: block `k` waited for in slot `k % 3`, block `k + 3` issued into the slot. -/
@[sl_canon] theorem cellV_wait (k : Fin k0_t2_loop.trips) (hh) :
    (cc0_scratch4.slice (Rect.unit (s := S3) (k0_off9 k) S1.size hh)).squeeze S_ squeezes_S1_S_ = cellV (Ring.sl 3 k.val) :=
  cellV_eq ((k0_off9_eq k).trans (by rw [Ring.sl_val])) hh
/-- Trip `k` waits for the slot numbered `k` modulo three. -/
@[sl_canon] theorem slotV_wait (k : Fin k0_t2_loop.trips) (hh hs) :
    (bufV.slice (Rect.unit (s := S3x128x12288) (k0_off10 k) S1x128x12288.size hh) hs).squeeze S128x12288 squeezes_S1x128x12288_S128x12288 = slotV (Ring.sl 3 k.val) :=
  slotV_eq ((k0_off10_eq k).trans (by rw [Ring.sl_val])) hh hs
/-- Trip `k` waits for block `k`. -/
@[sl_canon] theorem rowsV_wait (k : Fin k0_t2_loop.trips) (hh hs) :
    hbmV.slice (Rect.unit (s := S4096x12288) (k0_off11 k) S128x12288.size hh) hs = rowsV (Ring.bk 32 k.val) :=
  rowsV_eq ((k0_off11_eq k).trans (by rw [Ring.bk_val (tripV_lt k)])) hh hs
/-- Trip `k` issues on the semaphore of the slot it has read. -/
@[sl_canon] theorem cellV_issue (k : Fin k0_t2_loop.trips) (hh) :
    (cc0_scratch4.slice (Rect.unit (s := S3) (k0_off14 k) S1.size hh)).squeeze S_ squeezes_S1_S_ = cellV (Ring.sl 3 k.val) :=
  cellV_eq ((k0_off14_eq k).trans (by rw [Ring.sl_val])) hh
/-- Trip `k` issues into the slot it has read. -/
@[sl_canon] theorem slotV_issue (k : Fin k0_t2_loop.trips) (hh hs) :
    (bufV.slice (Rect.unit (s := S3x128x12288) (k0_off15 k) S1x128x12288.size hh) hs).squeeze S128x12288 squeezes_S1x128x12288_S128x12288 = slotV (Ring.sl 3 k.val) :=
  slotV_eq ((k0_off15_eq k).trans (by rw [Ring.sl_val])) hh hs
/-- Trip `k` issues block `k + 3`. -/
@[sl_canon] theorem rowsV_issue (k : Fin k0_t2_loop.trips) (h3 : k.val + 3 < 32) (hh hs) :
    hbmV.slice (Rect.unit (s := S4096x12288) (k0_off16 k) S128x12288.size hh) hs = rowsV (Ring.bk 32 (k.val + 3)) :=
  rowsV_eq ((k0_off16_eq k).trans (by rw [Ring.bk_val h3, Nat.mul_add])) hh hs

/-- The slot a trip reads is the slot the block has landed in. -/
instance (priority := high) (k : Fin k0_t2_loop.trips) : ClosedOff (k0_off12 k) :=
  ⟨![(Ring.sl 3 k.val).val, 0, 0], (k0_off12_eq k).trans (by rw [Ring.sl_val])⟩

/-! ### What a vertex block, slot and semaphore are held as -/

section V

variable (c : Dev nD) (M : Buf (Elt F) (hbmV.view.loc (c : Thread nD τ)))

/-- Slot `s`'s semaphore at zero; -/
abbrev atZeroV (s : Fin 3) : sProp 𝕄 := semVal ((c : Thread nD τ), SemLoc.dma (cellV s).sem) 0
/-- slot `s` at contents `f`; -/
abbrev holdsV (s : Fin 3) (f : Buf (Elt F) ((slotV s).view.loc (c : Thread nD τ))) : sProp 𝕄 :=
  (slotV s).view.loc (c : Thread nD τ) ↦[(slotV s).view.set]{fullShare} f
/-- block `b` of the matrix `M`, no transfer reading it. -/
abbrev homeV (b : Fin 32) : sProp 𝕄 := (rowsV b).view.loc (c : Thread nD τ) ↦[(rowsV b).view.set]{fullShare} M
/-- Block `b`'s numbers. -/
abbrev blockV (b : Fin 32) : S128x12288.Idx → Elt F .f32 := ReadAs.same.apply ((rowsV b).view.read (Elt F) M)
/-- Slot `s` once block `b` has been copied over `f`. -/
abbrev landedV (s : Fin 3) (b : Fin 32) (f : Buf (Elt F) ((slotV s).view.loc (c : Thread nD τ))) :
    Buf (Elt F) ((slotV s).view.loc (c : Thread nD τ)) :=
  (slotV s).view.writes (Elt F) f [⟨Rect.whole S128x12288, blockV c M b⟩]
/-- Block `b` on its way into slot `s`: the semaphore's count hands back the slot with the block in it and the block. -/
abbrev flightV (s : Fin 3) (b : Fin 32) (f : Buf (Elt F) ((slotV s).view.loc (c : Thread nD τ))) : sProp 𝕄 :=
  Transfers.Flight countersEmb (c : Thread nD τ) (SemLoc.dma (cellV s).sem) () 196608 iprop(holdsV c s (landedV c M s b f) ∗ homeV c M b)

/-- Slot `s` idle: its semaphore at zero, its contents whatever they are. -/
abbrev idleV (s : Fin 3) : sProp 𝕄 := iprop(atZeroV (F := F) c s ∗ ∃ f, holdsV c s f)
/-- Before trip `p` the slot of block `p`: the block in flight if there is one, else idle. -/
@[irreducible] def roleV (p : ℕ) : sProp 𝕄 :=
  Ring.roleAt (NB := 32) (idleV c (Ring.sl 3 p)) (fun b => iprop(∃ f, flightV c M (Ring.sl 3 p) b f)) p

/-- While there is a block `p`, its slot has it in flight. -/
theorem roleV_flight (p : ℕ) (h : p < 32) : roleV c M p = iprop(∃ f, flightV c M (Ring.sl 3 p) (Ring.bk 32 p) f) := by
  unfold roleV; exact Ring.roleAt_of_lt _ _ p h
/-- Past the last block the slot is idle. -/
theorem roleV_idle (p : ℕ) (h : 32 ≤ p) : roleV c M p = idleV c (Ring.sl 3 p) := by
  unfold roleV; exact Ring.roleAt_of_le _ _ p h

/-- Before trip `k`, block `k + 3` still to be issued: it is home beside the others at home; -/
theorem homesV_here (k : ℕ) (h : k + 3 < 32) :
    bigSep (Ring.homeSet 3 k) (homeV c M)
      = iprop(homeV c M (Ring.bk 32 (k + 3)) ∗ bigSep ((Ring.homeSet 3 k).erase (Ring.bk 32 (k + 3))) (homeV c M)) := by
  conv_lhs => rw [Ring.homeSet_out 3 k h, bigSep_insert (Ring.bkL_not_mem_erase 3 k)]
  rfl
/-- after the trip block `k` has come home and block `k + 3` has gone; -/
theorem homesV_next (k : ℕ) (h : k + 3 < 32) :
    bigSep (Ring.homeSet 3 (k + 1)) (homeV c M)
      = iprop(homeV c M (Ring.bk 32 k) ∗ bigSep ((Ring.homeSet 3 k).erase (Ring.bk 32 (k + 3))) (homeV c M)) := by
  conv_lhs => rw [Ring.homeSet_succ 3 k h, bigSep_insert (Ring.bk_not_mem_erase 3 k (by omega) (by decide))]
  rfl
/-- near the end block `k` comes home and nothing goes. -/
theorem homesV_tail (k : ℕ) (h : 32 ≤ k + 3) (hk : k < 32) :
    bigSep (Ring.homeSet 3 (k + 1)) (homeV c M) = iprop(homeV c M (Ring.bk 32 k) ∗ bigSep (Ring.homeSet 3 k) (homeV c M)) := by
  rw [Ring.homeSet_succ_tail 3 k h hk, bigSep_insert (Ring.bk_not_mem_homeSet 3 k hk (by decide))]; rfl

/-- The slot a trip has waited on, block `b` in it, with block `b'` on its way into it. -/
theorem flightV_after (s : Fin 3) (b b' : Fin 32) :
    flightV c M s b' ((slotV s).view.writes (Elt F) (slotV s).view.junk [⟨Rect.whole S128x12288, blockV c M b⟩])
      = Transfers.Flight countersEmb (c : Thread nD τ) (SemLoc.dma (cellV s).sem) () 196608
          iprop(((slotV s).view.loc (c : Thread nD τ) ↦[(slotV s).view.set]{fullShare}
                  (slotV s).view.writes (Elt F) (slotV s).view.junk [⟨Rect.whole S128x12288, blockV c M b'⟩, ⟨Rect.whole S128x12288, blockV c M b⟩])
                ∗ homeV c M b') := by
  simp only [flightV, landedV, holdsV, View.writes]

end V

end Cert.Proof.PI

end
-- ==== Proof.PI.Trips.lean ====
/-
  One trip of each of the kernel's two loops: wait for a row block, add the block's contribution to the accumulator, and
  issue the block three steps on into the slot just read.
-/
module

public import proofs.«01_k».proof.Proof.PI.Names

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-! ## The staged operands -/

/-- The VMEM staging of the windowed operands: the three feature matrices, the five transposed weights, the five biases, the
last layer's weight and bias, the result. -/
structure Stage where
  a2 : Memref sig .tc .vmem S4096x32 .f32
  h2 : a2.IsWhole
  a3 : Memref sig .tc .vmem S12288x32 .f32
  h3 : a3.IsWhole
  a4 : Memref sig .tc .vmem S8192x32 .f32
  h4 : a4.IsWhole
  a5 : Memref sig .tc .vmem S32x64 .f32
  h5 : a5.IsWhole
  a6 : Memref sig .tc .vmem S32x64 .f32
  h6 : a6.IsWhole
  a7 : Memref sig .tc .vmem S32x64 .f32
  h7 : a7.IsWhole
  a8 : Memref sig .tc .vmem S32x64 .f32
  h8 : a8.IsWhole
  a9 : Memref sig .tc .vmem S32x64 .f32
  h9 : a9.IsWhole
  a10 : Memref sig .tc .vmem S1x64 .f32
  h10 : a10.IsWhole
  a11 : Memref sig .tc .vmem S1x64 .f32
  h11 : a11.IsWhole
  a12 : Memref sig .tc .vmem S1x64 .f32
  h12 : a12.IsWhole
  a13 : Memref sig .tc .vmem S1x64 .f32
  h13 : a13.IsWhole
  a14 : Memref sig .tc .vmem S1x64 .f32
  h14 : a14.IsWhole
  a15 : Memref sig .tc .vmem S64x64 .f32
  h15 : a15.IsWhole
  a16 : Memref sig .tc .vmem S1x64 .f32
  h16 : a16.IsWhole
  a17 : Memref sig .tc .vmem S1x64 .f32
  h17 : a17.IsWhole

variable (c : Dev nD) (S : Stage)

/-- What the staging of the operands read holds. -/
structure Ins (F : FTy → Type) (c : Dev nD) (S : Stage) where
  x2 : Buf (Elt F) (S.a2.view.loc (c : Thread nD τ))
  x3 : Buf (Elt F) (S.a3.view.loc (c : Thread nD τ))
  x4 : Buf (Elt F) (S.a4.view.loc (c : Thread nD τ))
  x5 : Buf (Elt F) (S.a5.view.loc (c : Thread nD τ))
  x6 : Buf (Elt F) (S.a6.view.loc (c : Thread nD τ))
  x7 : Buf (Elt F) (S.a7.view.loc (c : Thread nD τ))
  x8 : Buf (Elt F) (S.a8.view.loc (c : Thread nD τ))
  x9 : Buf (Elt F) (S.a9.view.loc (c : Thread nD τ))
  x10 : Buf (Elt F) (S.a10.view.loc (c : Thread nD τ))
  x11 : Buf (Elt F) (S.a11.view.loc (c : Thread nD τ))
  x12 : Buf (Elt F) (S.a12.view.loc (c : Thread nD τ))
  x13 : Buf (Elt F) (S.a13.view.loc (c : Thread nD τ))
  x14 : Buf (Elt F) (S.a14.view.loc (c : Thread nD τ))
  x15 : Buf (Elt F) (S.a15.view.loc (c : Thread nD τ))
  x16 : Buf (Elt F) (S.a16.view.loc (c : Thread nD τ))

/-- The accumulator, one row of 64. -/
abbrev accM : Memref sig .tc .vmem S1x64 .f32 := Memref.whole cc0_scratch2
/-- The accumulator's whole row. -/
abbrev R00 : Rect S1x64 := Rect.unit (s := S1x64) ![0, 0] S1x64.size inb_S1x64_S1x64_0_0
/-- The accumulator at contents `f`. -/
abbrev accAt (f : Buf (Elt F) (accM.view.loc (c : Thread nD τ))) : sProp 𝕄 :=
  accM.view.loc (c : Thread nD τ) ↦[accM.view.set]{fullShare} f
/-- A staged operand at contents `f`. -/
abbrev inAt {s : Shape} (a : Memref sig .tc .vmem s .f32) (f : Buf (Elt F) (a.view.loc (c : Thread nD τ))) : sProp 𝕄 :=
  a.view.loc (c : Thread nD τ) ↦[a.view.set]{fullShare} f
/-! ## A trip of the edge loop -/

section E

variable (c : Dev nD) (S : Stage) (I : Ins F c S) (M : Buf (Elt F) (hbmE.view.loc (c : Thread nD τ)))

/-- The operands the edge loop reads. -/
abbrev readsE : sProp 𝕄 :=
  iprop(inAt c S.a4 I.x4 ∗ inAt c S.a3 I.x3 ∗ inAt c S.a6 I.x6 ∗ inAt c S.a9 I.x9 ∗ inAt c S.a11 I.x11 ∗ inAt c S.a14 I.x14)

/-- Before trip `k`, the accumulator at `f`: the operands, the blocks at home, and the roles of blocks `k`, `k + 1`, `k + 2`. -/
def beforeE (k : ℕ) (f : Buf (Elt F) (accM.view.loc (c : Thread nD τ))) : sProp 𝕄 :=
  iprop(readsE c S I ∗ accAt c f ∗ (∃ W, owes (c : Thread nD τ) 0 W)
    ∗ bigSep (Ring.homeSet 3 k) (homeE c M) ∗ roleE c M k ∗ roleE c M (k + 1) ∗ roleE c M (k + 1 + 1))

/-- Trip `k`'s program. -/
abbrev tripE (k : Fin k0_t1_loop.trips) : Prog (TpuEff nD τ sig (Elt F) Λ₀ .tc) Unit :=
  k0_t1_body (F := F) hbmE (Memref.isWhole_whole _) hbmV (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 bufE (Memref.isWhole_whole _) bufV (Memref.isWhole_whole _) accM (Memref.isWhole_whole _) cc0_scratch3 cc0_scratch4 k ()

/-- What trip `k` reads of its slot: block `k`, as the transfer left it there. -/
abbrev slotReadE (k : Fin k0_t1_loop.trips) : Vec F S1x256x8192 .f32 :=
  bufE.view.readAt (Elt F) (Rect.unit (s := S3x256x8192) (k0_off4 k) S1x256x8192.size (k0_off4_inb k)).toLoadRect
    ((slotE (Ring.sl 3 k.val)).view.writes (Elt F) (slotE (Ring.sl 3 k.val)).view.junk [⟨Rect.whole S256x8192, blockE c M (Ring.bk 48 k.val)⟩])

/-- Block `k`'s linear layer, before its nonlinearity. -/
def layerE (k : Fin k0_t1_loop.trips) : FVec F S256x64 .f32 :=
  k0_pay2 (slotReadE c M k)
    (S.a4.view.readAt (Elt F) (Rect.unit (s := S8192x32) ![0, 0] S8192x32.size inb_S8192x32_S8192x32_0_0).toLoadRect I.x4)
    (S.a3.view.readAt (Elt F) (Rect.unit (s := S12288x32) (k0_off5 k) S256x32.size (k0_off5_inb k)).toLoadRect I.x3)
    (S.a6.view.readAt (Elt F) (Rect.unit (s := S32x64) ![0, 0] S32x64.size inb_S32x64_S32x64_0_0).toLoadRect I.x6)
    (S.a9.view.readAt (Elt F) (Rect.unit (s := S32x64) ![0, 0] S32x64.size inb_S32x64_S32x64_0_0).toLoadRect I.x9)
    (S.a11.view.readAt (Elt F) (Rect.unit (s := S1x64) ![0, 0] S1x64.size inb_S1x64_S1x64_0_0).toLoadRect I.x11)
    (S.a14.view.readAt (Elt F) (Rect.unit (s := S1x64) ![0, 0] S1x64.size inb_S1x64_S1x64_0_0).toLoadRect I.x14)

/-- The row the trip stores: the accumulator's row with the block's contribution added. -/
def storedE (k : Fin k0_t1_loop.trips) (f : Buf (Elt F) (accM.view.loc (c : Thread nD τ))) : R00.shape.Idx → Elt F .f32 :=
  k0_pay5 (layerE c S I M k) (accM.view.readAt (Elt F) R00.toLoadRect f) (FloatOps.ofBits .f32 0x00000000#32)

set_option backward.proofsInPublic true in
/-- A trip that issues: from the resources before it to those after it, the row stored. -/
theorem runE_issue (k : Fin k0_t1_loop.trips) (h3 : k.val + 3 < 48) (f : Buf (Elt F) (accM.view.loc (c : Thread nD τ))) :
    beforeE c S I M k f ⊢ wp frame (wpE (defs₀ (F := F)) noVariants (c : Thread nD τ) none) Set.univ (tripE S k)
      (fun _ => beforeE c S I M (k.val + 1) (accM.view.writes (Elt F) f [⟨R00, storedE c S I M k f⟩])) := by
  have hc : k0_cond1 k = 1#1 := (condE k).mpr h3
  unfold beforeE
  rw [homesE_here c M k.val h3, homesE_next c M k.val h3, roleE_flight c M k.val (tripE_lt k), roleE_flight c M (k.val + 1 + 1 + 1) h3, turn]
  iintro ⟨⟨HB, HR, HW1, HW2, Hb1, Hb2⟩, HA, ⟨%W, HW⟩, ⟨Hg, Hrest⟩, ⟨%f0, HF0⟩, H1, H2⟩
  dsimp only [tripE]
  sl_unfold [k0_t1_body]
  sl_exec
  sl_step
  isplitl [HB HR HW1 HW2 Hb1 Hb2]
  · isplitl [HB]; · iexact HB
    isplitl [HR]; · iexact HR
    isplitl [HW1]; · iexact HW1
    isplitl [HW2]; · iexact HW2
    isplitl [Hb1]; · iexact Hb1
    iexact Hb2
  isplitl [HA]; · iexact HA
  isplitl [HW]; · iexists _; iexact HW
  isplitl [HF0_src Hrest]
  · isplitl [HF0_src]; · iexact HF0_src
    iexact Hrest
  isplitl [H1]; · iexact H1
  isplitl [H2]; · iexact H2
  iexists ((slotE (Ring.sl 3 k.val)).view.writes (Elt F) (slotE (Ring.sl 3 k.val)).view.junk [⟨Rect.whole S256x8192, blockE c M (Ring.bk 48 k.val)⟩])
  irw [flightE_after]
  iexact HF0

set_option backward.proofsInPublic true in
/-- A trip near the end, which issues nothing: likewise, its slot left idle. -/
theorem runE_last (k : Fin k0_t1_loop.trips) (h3 : 48 ≤ k.val + 3) (f : Buf (Elt F) (accM.view.loc (c : Thread nD τ))) :
    beforeE c S I M k f ⊢ wp frame (wpE (defs₀ (F := F)) noVariants (c : Thread nD τ) none) Set.univ (tripE S k)
      (fun _ => beforeE c S I M (k.val + 1) (accM.view.writes (Elt F) f [⟨R00, storedE c S I M k f⟩])) := by
  have hc : ¬ k0_cond1 k = 1#1 := fun h => by have := (condE k).mp h; omega
  unfold beforeE
  rw [homesE_tail c M k.val h3 (tripE_lt k), roleE_flight c M k.val (tripE_lt k), roleE_idle c M (k.val + 1 + 1 + 1) h3, turn]
  iintro ⟨⟨HB, HR, HW1, HW2, Hb1, Hb2⟩, HA, ⟨%W, HW⟩, Hrest, ⟨%f0, HF0⟩, H1, H2⟩
  dsimp only [tripE]
  sl_unfold [k0_t1_body]
  sl_exec
  sl_step
  isplitl [HB HR HW1 HW2 Hb1 Hb2]
  · isplitl [HB]; · iexact HB
    isplitl [HR]; · iexact HR
    isplitl [HW1]; · iexact HW1
    isplitl [HW2]; · iexact HW2
    isplitl [Hb1]; · iexact Hb1
    iexact Hb2
  isplitl [HA]; · iexact HA
  isplitl [HW]; · iexists _; iexact HW
  isplitl [HF0_src Hrest]
  · isplitl [HF0_src]; · iexact HF0_src
    iexact Hrest
  isplitl [H1]; · iexact H1
  isplitl [H2]; · iexact H2
  isplitl [HF0]; · iexact HF0
  iexists _; iexact HF0_dst

/-- Any trip of the edge loop. -/
theorem runE (k : Fin k0_t1_loop.trips) (f : Buf (Elt F) (accM.view.loc (c : Thread nD τ))) :
    beforeE c S I M k f ⊢ wp frame (wpE (defs₀ (F := F)) noVariants (c : Thread nD τ) none) Set.univ (tripE S k)
      (fun _ => beforeE c S I M (k.val + 1) (accM.view.writes (Elt F) f [⟨R00, storedE c S I M k f⟩])) := by
  by_cases h3 : k.val + 3 < 48
  · exact runE_issue c S I M k h3 f
  · exact runE_last c S I M k (by omega) f

/-! ### The edge loop -/

/-- The accumulator before trip `k`, from its contents `f` at the loop's entry. -/
def accE (f : Buf (Elt F) (accM.view.loc (c : Thread nD τ))) : ℕ → Buf (Elt F) (accM.view.loc (c : Thread nD τ))
  | 0 => f
  | k + 1 =>
    if h : k < k0_t1_loop.trips then accM.view.writes (Elt F) (accE f k) [⟨R00, storedE c S I M ⟨k, h⟩ (accE f k)⟩] else accE f k

/-- One more trip adds that trip's row. -/
theorem accE_succ (f : Buf (Elt F) (accM.view.loc (c : Thread nD τ))) (k : Fin k0_t1_loop.trips) :
    accE c S I M f (k.val + 1) = accM.view.writes (Elt F) (accE c S I M f k) [⟨R00, storedE c S I M k (accE c S I M f k)⟩] := by
  rw [accE, dif_pos k.isLt]

/-- At the loop's entry: blocks 0, 1 and 2 in flight into slots 0, 1 and 2. -/
abbrev entryE (f : Buf (Elt F) (accM.view.loc (c : Thread nD τ))) : sProp 𝕄 :=
  iprop(readsE c S I ∗ accAt c f ∗ (∃ W, owes (c : Thread nD τ) 0 W)
    ∗ bigSep (Ring.homeSet 3 0) (homeE c M) ∗ (∃ g, flightE c M 0 0 g) ∗ (∃ g, flightE c M 1 1 g) ∗ (∃ g, flightE c M 2 2 g))

/-- The resources before trip `k` of the loop, spelt out at its entry. -/
def invE (f : Buf (Elt F) (accM.view.loc (c : Thread nD τ))) : ℕ → sProp 𝕄
  | 0 => entryE c S I M f
  | k + 1 => beforeE c S I M (k + 1) (accE c S I M f (k + 1))

/-- The invariant before trip `k` gives what the trip starts from. -/
theorem invE_before (f : Buf (Elt F) (accM.view.loc (c : Thread nD τ))) (k : ℕ) :
    invE c S I M f k ⊢ beforeE c S I M k (accE c S I M f k) := by
  cases k with
  | succ k => exact .rfl
  | zero =>
    unfold invE beforeE
    rw [roleE_flight c M 0 (by decide), roleE_flight c M (0 + 1) (by decide), roleE_flight c M (0 + 1 + 1) (by decide)]
    exact .rfl

set_option warn.classDefReducibility false in
/-- The invariant of the edge loop. -/
@[sl_loop] def loopE (f : Buf (Elt F) (accM.view.loc (c : Thread nD τ))) :
    LoopInvTy_k0_t1 (F := F) Unit ℕ (UU nD τ) ℕ noVariants c none Set.univ hbmE (Memref.isWhole_whole _) hbmV (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 bufE (Memref.isWhole_whole _) bufV (Memref.isWhole_whole _) accM (Memref.isWhole_whole _) cc0_scratch3 cc0_scratch4 where
  inv k _ := invE c S I M f k
  step k _ := by
    show invE c S I M f k ⊢ wp frame (wpE (defs₀ (F := F)) noVariants (c : Thread nD τ) none) Set.univ (tripE S k)
      (fun _ => beforeE c S I M (k.val + 1) (accE c S I M f (k.val + 1)))
    rw [accE_succ]
    exact (invE_before c S I M f k.val).trans (runE c S I M k _)

/-- After the loop: every block home, every slot idle. -/
abbrev afterE (f : Buf (Elt F) (accM.view.loc (c : Thread nD τ))) : sProp 𝕄 :=
  iprop(readsE c S I ∗ accAt c (accE c S I M f 48) ∗ (∃ W, owes (c : Thread nD τ) 0 W)
    ∗ bigSep Finset.univ (homeE c M) ∗ idleE c 0 ∗ idleE c 1 ∗ idleE c 2)

/-- What stands past the last trip is every block home and every slot idle. -/
theorem beforeE_after (f : Buf (Elt F) (accM.view.loc (c : Thread nD τ))) :
    beforeE c S I M 48 (accE c S I M f 48) ⊢ afterE c S I M f := by
  unfold beforeE
  rw [Ring.homeSet_last 3 48 (le_refl _), roleE_idle c M 48 (le_refl _), roleE_idle c M (48 + 1) (by decide),
    roleE_idle c M (48 + 1 + 1) (by decide)]
  iintro ⟨HR, HA, HW, HH, H⟩
  isplitl [HR]; · iexact HR
  isplitl [HA]; · iexact HA
  isplitl [HW]; · iexact HW
  isplitl [HH]; · iexact HH
  iapply (Ring.free3_of_roles (fun s => idleE (F := F) c s) 48)
  iexact H

/-- What the program has after the loop. -/
instance (f : Buf (Elt F) (accM.view.loc (c : Thread nD τ))) : LoopExit (loopE c S I M f) where
  post _ := afterE c S I M f
  exit _ := by
    show invE c S I M f k0_t1_loop.trips ⊢ _
    rw [tripsE]
    exact beforeE_after c S I M f

end E

/-! ## A trip of the vertex loop -/

section V

variable (c : Dev nD) (S : Stage) (I : Ins F c S) (M : Buf (Elt F) (hbmV.view.loc (c : Thread nD τ)))

/-- The operands the vertex loop reads. -/
abbrev readsV : sProp 𝕄 :=
  iprop(inAt c S.a3 I.x3 ∗ inAt c S.a2 I.x2 ∗ inAt c S.a5 I.x5 ∗ inAt c S.a8 I.x8 ∗ inAt c S.a10 I.x10 ∗ inAt c S.a13 I.x13)

/-- Before trip `k`, the accumulator at `f`: the operands, the blocks at home, and the roles of blocks `k`, `k + 1`, `k + 2`. -/
def beforeV (k : ℕ) (f : Buf (Elt F) (accM.view.loc (c : Thread nD τ))) : sProp 𝕄 :=
  iprop(readsV c S I ∗ accAt c f ∗ (∃ W, owes (c : Thread nD τ) 0 W)
    ∗ bigSep (Ring.homeSet 3 k) (homeV c M) ∗ roleV c M k ∗ roleV c M (k + 1) ∗ roleV c M (k + 1 + 1))

/-- Trip `k`'s program. -/
abbrev tripV (k : Fin k0_t2_loop.trips) : Prog (TpuEff nD τ sig (Elt F) Λ₀ .tc) Unit :=
  k0_t2_body (F := F) hbmE (Memref.isWhole_whole _) hbmV (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 bufE (Memref.isWhole_whole _) bufV (Memref.isWhole_whole _) accM (Memref.isWhole_whole _) cc0_scratch3 cc0_scratch4 k ()

/-- What trip `k` reads of its slot: block `k`, as the transfer left it there. -/
abbrev slotReadV (k : Fin k0_t2_loop.trips) : Vec F S1x128x12288 .f32 :=
  bufV.view.readAt (Elt F) (Rect.unit (s := S3x128x12288) (k0_off12 k) S1x128x12288.size (k0_off12_inb k)).toLoadRect
    ((slotV (Ring.sl 3 k.val)).view.writes (Elt F) (slotV (Ring.sl 3 k.val)).view.junk [⟨Rect.whole S128x12288, blockV c M (Ring.bk 32 k.val)⟩])

/-- Block `k`'s linear layer, before its nonlinearity. -/
def layerV (k : Fin k0_t2_loop.trips) : FVec F S128x64 .f32 :=
  k0_pay3 (slotReadV c M k)
    (S.a3.view.readAt (Elt F) (Rect.unit (s := S12288x32) ![0, 0] S12288x32.size inb_S12288x32_S12288x32_0_0).toLoadRect I.x3)
    (S.a2.view.readAt (Elt F) (Rect.unit (s := S4096x32) (k0_off13 k) S128x32.size (k0_off13_inb k)).toLoadRect I.x2)
    (S.a5.view.readAt (Elt F) (Rect.unit (s := S32x64) ![0, 0] S32x64.size inb_S32x64_S32x64_0_0).toLoadRect I.x5)
    (S.a8.view.readAt (Elt F) (Rect.unit (s := S32x64) ![0, 0] S32x64.size inb_S32x64_S32x64_0_0).toLoadRect I.x8)
    (S.a10.view.readAt (Elt F) (Rect.unit (s := S1x64) ![0, 0] S1x64.size inb_S1x64_S1x64_0_0).toLoadRect I.x10)
    (S.a13.view.readAt (Elt F) (Rect.unit (s := S1x64) ![0, 0] S1x64.size inb_S1x64_S1x64_0_0).toLoadRect I.x13)

/-- The row the trip stores: the accumulator's row with the block's contribution added. -/
def storedV (k : Fin k0_t2_loop.trips) (f : Buf (Elt F) (accM.view.loc (c : Thread nD τ))) : R00.shape.Idx → Elt F .f32 :=
  k0_pay6 (layerV c S I M k) (accM.view.readAt (Elt F) R00.toLoadRect f) (FloatOps.ofBits .f32 0x00000000#32)

set_option backward.proofsInPublic true in
/-- A trip that issues: from the resources before it to those after it, the row stored. -/
theorem runV_issue (k : Fin k0_t2_loop.trips) (h3 : k.val + 3 < 32) (f : Buf (Elt F) (accM.view.loc (c : Thread nD τ))) :
    beforeV c S I M k f ⊢ wp frame (wpE (defs₀ (F := F)) noVariants (c : Thread nD τ) none) Set.univ (tripV S k)
      (fun _ => beforeV c S I M (k.val + 1) (accM.view.writes (Elt F) f [⟨R00, storedV c S I M k f⟩])) := by
  have hc : k0_cond2 k = 1#1 := (condV k).mpr h3
  unfold beforeV
  rw [homesV_here c M k.val h3, homesV_next c M k.val h3, roleV_flight c M k.val (tripV_lt k), roleV_flight c M (k.val + 1 + 1 + 1) h3, turn]
  iintro ⟨⟨HB, HR, HW1, HW2, Hb1, Hb2⟩, HA, ⟨%W, HW⟩, ⟨Hg, Hrest⟩, ⟨%f0, HF0⟩, H1, H2⟩
  dsimp only [tripV]
  sl_unfold [k0_t2_body]
  sl_exec
  sl_step
  isplitl [HB HR HW1 HW2 Hb1 Hb2]
  · isplitl [HB]; · iexact HB
    isplitl [HR]; · iexact HR
    isplitl [HW1]; · iexact HW1
    isplitl [HW2]; · iexact HW2
    isplitl [Hb1]; · iexact Hb1
    iexact Hb2
  isplitl [HA]; · iexact HA
  isplitl [HW]; · iexists _; iexact HW
  isplitl [HF0_src Hrest]
  · isplitl [HF0_src]; · iexact HF0_src
    iexact Hrest
  isplitl [H1]; · iexact H1
  isplitl [H2]; · iexact H2
  iexists ((slotV (Ring.sl 3 k.val)).view.writes (Elt F) (slotV (Ring.sl 3 k.val)).view.junk [⟨Rect.whole S128x12288, blockV c M (Ring.bk 32 k.val)⟩])
  irw [flightV_after]
  iexact HF0

set_option backward.proofsInPublic true in
/-- A trip near the end, which issues nothing: likewise, its slot left idle. -/
theorem runV_last (k : Fin k0_t2_loop.trips) (h3 : 32 ≤ k.val + 3) (f : Buf (Elt F) (accM.view.loc (c : Thread nD τ))) :
    beforeV c S I M k f ⊢ wp frame (wpE (defs₀ (F := F)) noVariants (c : Thread nD τ) none) Set.univ (tripV S k)
      (fun _ => beforeV c S I M (k.val + 1) (accM.view.writes (Elt F) f [⟨R00, storedV c S I M k f⟩])) := by
  have hc : ¬ k0_cond2 k = 1#1 := fun h => by have := (condV k).mp h; omega
  unfold beforeV
  rw [homesV_tail c M k.val h3 (tripV_lt k), roleV_flight c M k.val (tripV_lt k), roleV_idle c M (k.val + 1 + 1 + 1) h3, turn]
  iintro ⟨⟨HB, HR, HW1, HW2, Hb1, Hb2⟩, HA, ⟨%W, HW⟩, Hrest, ⟨%f0, HF0⟩, H1, H2⟩
  dsimp only [tripV]
  sl_unfold [k0_t2_body]
  sl_exec
  sl_step
  isplitl [HB HR HW1 HW2 Hb1 Hb2]
  · isplitl [HB]; · iexact HB
    isplitl [HR]; · iexact HR
    isplitl [HW1]; · iexact HW1
    isplitl [HW2]; · iexact HW2
    isplitl [Hb1]; · iexact Hb1
    iexact Hb2
  isplitl [HA]; · iexact HA
  isplitl [HW]; · iexists _; iexact HW
  isplitl [HF0_src Hrest]
  · isplitl [HF0_src]; · iexact HF0_src
    iexact Hrest
  isplitl [H1]; · iexact H1
  isplitl [H2]; · iexact H2
  isplitl [HF0]; · iexact HF0
  iexists _; iexact HF0_dst

/-- Any trip of the vertex loop. -/
theorem runV (k : Fin k0_t2_loop.trips) (f : Buf (Elt F) (accM.view.loc (c : Thread nD τ))) :
    beforeV c S I M k f ⊢ wp frame (wpE (defs₀ (F := F)) noVariants (c : Thread nD τ) none) Set.univ (tripV S k)
      (fun _ => beforeV c S I M (k.val + 1) (accM.view.writes (Elt F) f [⟨R00, storedV c S I M k f⟩])) := by
  by_cases h3 : k.val + 3 < 32
  · exact runV_issue c S I M k h3 f
  · exact runV_last c S I M k (by omega) f

/-! ### The vertex loop -/

/-- The accumulator before trip `k`, from its contents `f` at the loop's entry. -/
def accV (f : Buf (Elt F) (accM.view.loc (c : Thread nD τ))) : ℕ → Buf (Elt F) (accM.view.loc (c : Thread nD τ))
  | 0 => f
  | k + 1 =>
    if h : k < k0_t2_loop.trips then accM.view.writes (Elt F) (accV f k) [⟨R00, storedV c S I M ⟨k, h⟩ (accV f k)⟩] else accV f k

/-- One more trip adds that trip's row. -/
theorem accV_succ (f : Buf (Elt F) (accM.view.loc (c : Thread nD τ))) (k : Fin k0_t2_loop.trips) :
    accV c S I M f (k.val + 1) = accM.view.writes (Elt F) (accV c S I M f k) [⟨R00, storedV c S I M k (accV c S I M f k)⟩] := by
  rw [accV, dif_pos k.isLt]

/-- At the loop's entry: blocks 0, 1 and 2 in flight into slots 0, 1 and 2. -/
abbrev entryV (f : Buf (Elt F) (accM.view.loc (c : Thread nD τ))) : sProp 𝕄 :=
  iprop(readsV c S I ∗ accAt c f ∗ (∃ W, owes (c : Thread nD τ) 0 W)
    ∗ bigSep (Ring.homeSet 3 0) (homeV c M) ∗ (∃ g, flightV c M 0 0 g) ∗ (∃ g, flightV c M 1 1 g) ∗ (∃ g, flightV c M 2 2 g))

/-- The resources before trip `k` of the loop, spelt out at its entry. -/
def invV (f : Buf (Elt F) (accM.view.loc (c : Thread nD τ))) : ℕ → sProp 𝕄
  | 0 => entryV c S I M f
  | k + 1 => beforeV c S I M (k + 1) (accV c S I M f (k + 1))

/-- The invariant before trip `k` gives what the trip starts from. -/
theorem invV_before (f : Buf (Elt F) (accM.view.loc (c : Thread nD τ))) (k : ℕ) :
    invV c S I M f k ⊢ beforeV c S I M k (accV c S I M f k) := by
  cases k with
  | succ k => exact .rfl
  | zero =>
    unfold invV beforeV
    rw [roleV_flight c M 0 (by decide), roleV_flight c M (0 + 1) (by decide), roleV_flight c M (0 + 1 + 1) (by decide)]
    exact .rfl

set_option warn.classDefReducibility false in
/-- The invariant of the vertex loop. -/
@[sl_loop] def loopV (f : Buf (Elt F) (accM.view.loc (c : Thread nD τ))) :
    LoopInvTy_k0_t2 (F := F) Unit ℕ (UU nD τ) ℕ noVariants c none Set.univ hbmE (Memref.isWhole_whole _) hbmV (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 bufE (Memref.isWhole_whole _) bufV (Memref.isWhole_whole _) accM (Memref.isWhole_whole _) cc0_scratch3 cc0_scratch4 where
  inv k _ := invV c S I M f k
  step k _ := by
    show invV c S I M f k ⊢ wp frame (wpE (defs₀ (F := F)) noVariants (c : Thread nD τ) none) Set.univ (tripV S k)
      (fun _ => beforeV c S I M (k.val + 1) (accV c S I M f (k.val + 1)))
    rw [accV_succ]
    exact (invV_before c S I M f k.val).trans (runV c S I M k _)

/-- After the loop: every block home, every slot idle. -/
abbrev afterV (f : Buf (Elt F) (accM.view.loc (c : Thread nD τ))) : sProp 𝕄 :=
  iprop(readsV c S I ∗ accAt c (accV c S I M f 32) ∗ (∃ W, owes (c : Thread nD τ) 0 W)
    ∗ bigSep Finset.univ (homeV c M) ∗ idleV c 0 ∗ idleV c 1 ∗ idleV c 2)

/-- What stands past the last trip is every block home and every slot idle. -/
theorem beforeV_after (f : Buf (Elt F) (accM.view.loc (c : Thread nD τ))) :
    beforeV c S I M 32 (accV c S I M f 32) ⊢ afterV c S I M f := by
  unfold beforeV
  rw [Ring.homeSet_last 3 32 (le_refl _), roleV_idle c M 32 (le_refl _), roleV_idle c M (32 + 1) (by decide),
    roleV_idle c M (32 + 1 + 1) (by decide)]
  iintro ⟨HR, HA, HW, HH, H⟩
  isplitl [HR]; · iexact HR
  isplitl [HA]; · iexact HA
  isplitl [HW]; · iexact HW
  isplitl [HH]; · iexact HH
  iapply (Ring.free3_of_roles (fun s => idleV (F := F) c s) 32)
  iexact H

/-- What the program has after the loop. -/
instance (f : Buf (Elt F) (accM.view.loc (c : Thread nD τ))) : LoopExit (loopV c S I M f) where
  post _ := afterV c S I M f
  exit _ := by
    show invV c S I M f k0_t2_loop.trips ⊢ _
    rw [tripsV]
    exact beforeV_after c S I M f

end V

end Cert.Proof.PI

end
-- ==== Proof.PI.Body.lean ====
/-
  The kernel's body: three blocks of each matrix issued, the faces' contribution stored as the accumulator's first contents,
  the edge loop, the vertex loop, and the last layer on the mean of what they gathered.
-/
module

public import proofs.«01_k».proof.Proof.PI.Trips

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

section Body

variable (c : Dev nD) (S : Stage) (I : Ins F c S)
  (ME : Buf (Elt F) (hbmE.view.loc (c : Thread nD τ))) (MV : Buf (Elt F) (hbmV.view.loc (c : Thread nD τ)))

/-- The operands, all fifteen. -/
abbrev insAt : sProp 𝕄 :=
  iprop(inAt c S.a2 I.x2 ∗ inAt c S.a3 I.x3 ∗ inAt c S.a4 I.x4 ∗ inAt c S.a5 I.x5 ∗ inAt c S.a6 I.x6 ∗ inAt c S.a7 I.x7 ∗ inAt c S.a8 I.x8 ∗ inAt c S.a9 I.x9 ∗ inAt c S.a10 I.x10 ∗ inAt c S.a11 I.x11 ∗ inAt c S.a12 I.x12 ∗ inAt c S.a13 I.x13 ∗ inAt c S.a14 I.x14 ∗ inAt c S.a15 I.x15 ∗ inAt c S.a16 I.x16)

/-- The kernel's body over the staged operands. -/
abbrev body : Prog (TpuEff nD τ sig (Elt F) Λ₀ .tc) PUnit :=
  cc0__cxn_kernel (F := F) hbmE (Memref.isWhole_whole _) hbmV (Memref.isWhole_whole _) S.a2 S.h2 S.a3 S.h3 S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 bufE (Memref.isWhole_whole _) bufV (Memref.isWhole_whole _) accM (Memref.isWhole_whole _) cc0_scratch3 cc0_scratch4

/-- The faces' contribution: the accumulator's first row. -/
def row0 : R00.shape.Idx → Elt F .f32 :=
  k0_pay4 (S.a4.view.readAt (Elt F) (Rect.unit (s := S8192x32) ![0, 0] S8192x32.size inb_S8192x32_S8192x32_0_0).toLoadRect I.x4)
    (S.a7.view.readAt (Elt F) (Rect.unit (s := S32x64) ![0, 0] S32x64.size inb_S32x64_S32x64_0_0).toLoadRect I.x7)
    (S.a12.view.readAt (Elt F) (Rect.unit (s := S1x64) ![0, 0] S1x64.size inb_S1x64_S1x64_0_0).toLoadRect I.x12)
/-- The accumulator before the loops, -/
abbrev acc0 : Buf (Elt F) (accM.view.loc (c : Thread nD τ)) := accM.view.writes (Elt F) accM.view.junk [⟨R00, row0 c S I⟩]
/-- after the edge loop, -/
abbrev acc1 : Buf (Elt F) (accM.view.loc (c : Thread nD τ)) := accE c S I ME (acc0 c S I) 48
/-- and after the vertex loop. -/
abbrev acc2 : Buf (Elt F) (accM.view.loc (c : Thread nD τ)) := accV c S I MV (acc1 c S I ME) 32
/-- The result's row. -/
def rowOut : R00.shape.Idx → Elt F .f32 :=
  k0_pay1 (accM.view.readAt (Elt F) R00.toLoadRect (acc2 c S I ME MV)) (Named.named κ "inv_cells" 0x382AAAAB#32)
    (S.a15.view.readAt (Elt F) (Rect.unit (s := S64x64) ![0, 0] S64x64.size inb_S64x64_S64x64_0_0).toLoadRect I.x15)
    (S.a16.view.readAt (Elt F) (Rect.unit (s := S1x64) ![0, 0] S1x64.size inb_S1x64_S1x64_0_0).toLoadRect I.x16)
/-- What the body leaves in the result's staging, over whatever `g` was there. -/
abbrev outBuf (g : Buf (Elt F) (S.a17.view.loc (c : Thread nD τ))) : Buf (Elt F) (S.a17.view.loc (c : Thread nD τ)) :=
  S.a17.view.writes (Elt F) g [⟨R00, rowOut c S I ME MV⟩]

/-- What the body is handed: the operands, the result's staging and the accumulator at anything, every block of both matrices
at home, the slots at anything, the semaphores at zero. -/
abbrev PRE (gO : Buf (Elt F) (S.a17.view.loc (c : Thread nD τ))) (W : Waits sig Unit) : sProp 𝕄 :=
  iprop(insAt c S I ∗ inAt c S.a17 gO ∗ (∃ f, accAt (F := F) c f) ∗ owes (c : Thread nD τ) 0 W
    ∗ (homeE c ME 0 ∗ homeE c ME 1 ∗ homeE c ME 2 ∗ bigSep (Ring.homeSet 3 0) (homeE c ME)) ∗ ((∃ f, holdsE (F := F) c 0 f) ∗ (∃ f, holdsE (F := F) c 1 f) ∗ (∃ f, holdsE (F := F) c 2 f)) ∗ (atZeroE (F := F) c 0 ∗ atZeroE (F := F) c 1 ∗ atZeroE (F := F) c 2)
    ∗ (homeV c MV 0 ∗ homeV c MV 1 ∗ homeV c MV 2 ∗ bigSep (Ring.homeSet 3 0) (homeV c MV)) ∗ ((∃ f, holdsV (F := F) c 0 f) ∗ (∃ f, holdsV (F := F) c 1 f) ∗ (∃ f, holdsV (F := F) c 2 f)) ∗ (atZeroV (F := F) c 0 ∗ atZeroV (F := F) c 1 ∗ atZeroV (F := F) c 2))
/-- What it hands back: the same, the result's row in its staging. -/
abbrev POST (gO : Buf (Elt F) (S.a17.view.loc (c : Thread nD τ))) : sProp 𝕄 :=
  iprop(insAt c S I ∗ inAt c S.a17 (outBuf c S I ME MV gO) ∗ (∃ f, accAt (F := F) c f) ∗ (∃ W, owes (c : Thread nD τ) 0 W)
    ∗ bigSep Finset.univ (homeE c ME) ∗ (idleE (F := F) c 0 ∗ idleE (F := F) c 1 ∗ idleE (F := F) c 2)
    ∗ bigSep Finset.univ (homeV c MV) ∗ (idleV (F := F) c 0 ∗ idleV (F := F) c 1 ∗ idleV (F := F) c 2))

set_option backward.proofsInPublic true in
/-- The body runs from the one to the other. -/
theorem bodyRun (gO W) (Q : PUnit → sProp 𝕄) :
    iprop(PRE c S I ME MV gO W ∗ (POST c S I ME MV gO -∗ Q ⟨⟩))
      ⊢ wp frame (wpE (defs₀ (F := F)) noVariants (c : Thread nD τ) none) Set.univ (body (F := F) S) Q := by
  iintro ⟨⟨⟨H2, H3, H4, H5, H6, H7, H8, H9, H10, H11, H12, H13, H14, H15, H16⟩, HO, ⟨%fA, HA⟩, HW,
    ⟨HE0, HE1, HE2, HE⟩, ⟨⟨%e0, HSE0⟩, ⟨%e1, HSE1⟩, ⟨%e2, HSE2⟩⟩, ⟨HCE0, HCE1, HCE2⟩,
    ⟨HV0, HV1, HV2, HV⟩, ⟨⟨%v0, HSV0⟩, ⟨%v1, HSV1⟩, ⟨%v2, HSV2⟩⟩, ⟨HCV0, HCV1, HCV2⟩⟩, Hk⟩
  sl_exec
  sl_step
  iapply Hk
  isplitl [HL16 HL15 HL0 HL17 HL2 H7 HL18 HL3 HL19 HL4 H12 HL20 HL5 H15 H16]
  · isplitl [HL16]; · iexact HL16
    isplitl [HL15]; · iexact HL15
    isplitl [HL0]; · iexact HL0
    isplitl [HL17]; · iexact HL17
    isplitl [HL2]; · iexact HL2
    isplitl [H7]; · iexact H7
    isplitl [HL18]; · iexact HL18
    isplitl [HL3]; · iexact HL3
    isplitl [HL19]; · iexact HL19
    isplitl [HL4]; · iexact HL4
    isplitl [H12]; · iexact H12
    isplitl [HL20]; · iexact HL20
    isplitl [HL5]; · iexact HL5
    isplitl [H15]; · iexact H15
    iexact H16
  isplitl [HO]; · iexact HO
  isplitl [HL21]; · iexists _; iexact HL21
  isplitl [HL22]; · iexists _; iexact HL22
  isplitl [HL8]; · iexact HL8
  isplitl [HL9 HL10 HL11 HL12 HL13 HL14]
  · isplitl [HL9 HL10]
    · isplitl [HL9]; · iexact HL9
      iexists _; iexact HL10
    isplitl [HL11 HL12]
    · isplitl [HL11]; · iexact HL11
      iexists _; iexact HL12
    isplitl [HL13]; · iexact HL13
    iexists _; iexact HL14
  isplitl [HL23]; · iexact HL23
  isplitl [HL24 HL25]
  · isplitl [HL24]; · iexact HL24
    iexists _; iexact HL25
  isplitl [HL26 HL27]
  · isplitl [HL26]; · iexact HL26
    iexists _; iexact HL27
  isplitl [HL28]; · iexact HL28
  iexists _; iexact HL29

end Body

end Cert.Proof.PI

end
-- ==== Proof.PI.Run.lean ====
/-
  The launch: what the region is entered with, split into blocks, slots and semaphores; the body's run at the one grid point;
  and the whole program's run, every argument unchanged and every semaphore back at zero.
-/
module

public import proofs.«01_k».proof.Proof.PI.Body
public import proofs.«01_k».proof.Proof.Gen.KernelIdeal.Frame
public import Idealize.ShloMosaic.Lib.Pipeline.KitQuiescent
public import Idealize.ShloMosaic.Lib.VecWindow
public import Idealize.ShloMosaic.Lib.Ring

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation)
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- The pipeline's own cells inside what the launch owns. -/
abbrev EP : Emb (UR sig nD τ) (MT nD τ sig Unit (Elt F) ℕ (UU nD τ) ℕ) := embL

/-- Equal assertions entail one another. -/
theorem entails_of_eq {P Q : sProp 𝕄} (e : P = Q) : P ⊢ Q := e ▸ .rfl

/-- A conjunction over three indices written out. -/
theorem bigSep_fin3' (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-! ## The edge ring whole -/

/-- Block `b`'s rows, -/
abbrev rowSetE (b : Fin 48) : Finset S12288x8192.Idx := (Rect.unit (s := S12288x8192) ![256 * b.val, 0] S256x8192.size (rowsE_inb b)).set
/-- slot `s`'s elements. -/
abbrev slotSetE (s : Fin 3) : Finset S3x256x8192.Idx := (Rect.unit (s := S3x256x8192) ![s.val, 0, 0] S1x256x8192.size (slotE_inb s)).set

/-- Block `b`'s elements are its rectangle's. -/
theorem rowsE_set (b : Fin 48) : (rowsE b).view.set = rowSetE b := View.set_slice_whole _ _
/-- Slot `s`'s elements are its rectangle's. -/
theorem slotE_set (s : Fin 3) : (slotE s).view.set = slotSetE s := (View.set_reshape _ _).trans (View.set_slice_whole _ _)

/-- Different blocks share no element. -/
theorem rowSetE_disjoint (b b' : Fin 48) (h : b ≠ b') : Disjoint (rowSetE b) (rowSetE b') :=
  Ring.lead_disjoint (s := S12288x8192) 0 256 (fun b : Fin 48 => ![256 * b.val, 0]) S256x8192.size rowsE_inb (fun _ => rfl) rfl b b' h
/-- The blocks are the whole matrix. -/
theorem rowSetE_cover : (Finset.univ : Finset (Fin 48)).biUnion rowSetE = Finset.univ :=
  Ring.lead_cover (s := S12288x8192) 0 256 (fun b : Fin 48 => ![256 * b.val, 0]) S256x8192.size rowsE_inb (fun _ => rfl)
    (fun b a ha => by fin_cases a; · exact absurd rfl ha
                      rfl) rfl (fun a ha => by fin_cases a; · exact absurd rfl ha
                                               rfl) (by decide)
/-- Different slots share no element. -/
theorem slotSetE_disjoint (s s' : Fin 3) (h : s ≠ s') : Disjoint (slotSetE s) (slotSetE s') :=
  Ring.lead_disjoint (s := S3x256x8192) 0 1 (fun s : Fin 3 => ![s.val, 0, 0]) S1x256x8192.size slotE_inb (fun s => (Nat.one_mul s.val).symm) rfl s s' h
/-- The slots are the whole buffer. -/
theorem slotSetE_cover : (Finset.univ : Finset (Fin 3)).biUnion slotSetE = Finset.univ :=
  Ring.lead_cover (s := S3x256x8192) 0 1 (fun s : Fin 3 => ![s.val, 0, 0]) S1x256x8192.size slotE_inb (fun s => (Nat.one_mul s.val).symm)
    (fun s a ha => by fin_cases a; · exact absurd rfl ha
                      · rfl
                      rfl) rfl (fun a ha => by fin_cases a; · exact absurd rfl ha
                                               · rfl
                                               rfl) (by decide)

/-- The matrix whole is its blocks at home; -/
theorem matE_eq (c : Dev nD) (M : Buf (Elt F) (hbmE.view.loc (c : Thread nD τ))) :
    (((c : Thread nD τ).loc main_arg4) ↦{fullShare} M : sProp 𝕄) = bigSep Finset.univ (homeE c M) := by
  rw [Ring.pointsTo_blocks (ℓ := (c : Thread nD τ).loc main_arg4) rowSetE rowSetE_disjoint rowSetE_cover]
  exact bigSep_congr fun b _ => by rw [← rowsE_set]; rfl
/-- the first three apart from the rest. -/
theorem homesE_zero (c : Dev nD) (M : Buf (Elt F) (hbmE.view.loc (c : Thread nD τ))) :
    bigSep Finset.univ (homeE c M) = iprop(homeE c M 0 ∗ homeE c M 1 ∗ homeE c M 2 ∗ bigSep (Ring.homeSet 3 0) (homeE c M)) := by
  have e : (Finset.univ : Finset (Fin 48)) = insert 0 (insert 1 (insert 2 (Ring.homeSet (NB := 48) 3 0))) := by decide
  rw [e, bigSep_insert (by decide), bigSep_insert (by decide), bigSep_insert (by decide)]; rfl

/-- Holding a slot is holding its rectangle of the buffer. -/
theorem holdsE_eq (c : Dev nD) (s : Fin 3) (f) : holdsE c s f = (((c : Thread nD τ).loc cc0_scratch0) ↦[slotSetE s]{fullShare} f : sProp 𝕄) :=
  congrArg (fun S => (_ ↦[S]{fullShare} f : sProp 𝕄)) (slotE_set s)
/-- The buffer whole is its three slots, -/
theorem bufE_split (c : Dev nD) :
    iprop(∃ f : Buf (Elt F) ((c : Thread nD τ).loc cc0_scratch0), ((c : Thread nD τ).loc cc0_scratch0) ↦{fullShare} f)
      ⊢ (iprop((∃ f, holdsE c 0 f) ∗ (∃ f, holdsE c 1 f) ∗ ∃ f, holdsE c 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) slotSetE slotSetE_disjoint slotSetE_cover f).trans (bigSep_fin3' _))) $$ H
  icases H2 with ⟨H0, H1, H2⟩
  isplitl [H0]
  · iexists f; iapply (entails_of_eq (holdsE_eq c 0 f).symm); iexact H0
  isplitl [H1]
  · iexists f; iapply (entails_of_eq (holdsE_eq c 1 f).symm); iexact H1
  iexists f; iapply (entails_of_eq (holdsE_eq c 2 f).symm); iexact H2
/-- and the three slots, each at anything, are the buffer. -/
theorem bufE_join (c : Dev nD) :
    iprop((∃ f, holdsE c 0 f) ∗ (∃ f, holdsE c 1 f) ∗ ∃ f, holdsE c 2 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch0) slotSetE slotSetE_disjoint slotSetE_cover f0)
  irw [bigSep_fin3']
  isplitl [H0]
  · iexists f0; iapply (entails_of_eq (holdsE_eq c 0 f0)); iexact H0
  isplitl [H1]
  · iexists f1; iapply (entails_of_eq (holdsE_eq c 1 f1)); iexact H1
  iexists f2; iapply (entails_of_eq (holdsE_eq c 2 f2)); iexact H2

/-! ## The vertex ring whole -/

/-- Block `b`'s rows, -/
abbrev rowSetV (b : Fin 32) : Finset S4096x12288.Idx := (Rect.unit (s := S4096x12288) ![128 * b.val, 0] S128x12288.size (rowsV_inb b)).set
/-- slot `s`'s elements. -/
abbrev slotSetV (s : Fin 3) : Finset S3x128x12288.Idx := (Rect.unit (s := S3x128x12288) ![s.val, 0, 0] S1x128x12288.size (slotV_inb s)).set

/-- Block `b`'s elements are its rectangle's. -/
theorem rowsV_set (b : Fin 32) : (rowsV b).view.set = rowSetV b := View.set_slice_whole _ _
/-- Slot `s`'s elements are its rectangle's. -/
theorem slotV_set (s : Fin 3) : (slotV s).view.set = slotSetV s := (View.set_reshape _ _).trans (View.set_slice_whole _ _)

/-- Different blocks share no element. -/
theorem rowSetV_disjoint (b b' : Fin 32) (h : b ≠ b') : Disjoint (rowSetV b) (rowSetV b') :=
  Ring.lead_disjoint (s := S4096x12288) 0 128 (fun b : Fin 32 => ![128 * b.val, 0]) S128x12288.size rowsV_inb (fun _ => rfl) rfl b b' h
/-- The blocks are the whole matrix. -/
theorem rowSetV_cover : (Finset.univ : Finset (Fin 32)).biUnion rowSetV = Finset.univ :=
  Ring.lead_cover (s := S4096x12288) 0 128 (fun b : Fin 32 => ![128 * b.val, 0]) S128x12288.size rowsV_inb (fun _ => rfl)
    (fun b a ha => by fin_cases a; · exact absurd rfl ha
                      rfl) rfl (fun a ha => by fin_cases a; · exact absurd rfl ha
                                               rfl) (by decide)
/-- Different slots share no element. -/
theorem slotSetV_disjoint (s s' : Fin 3) (h : s ≠ s') : Disjoint (slotSetV s) (slotSetV s') :=
  Ring.lead_disjoint (s := S3x128x12288) 0 1 (fun s : Fin 3 => ![s.val, 0, 0]) S1x128x12288.size slotV_inb (fun s => (Nat.one_mul s.val).symm) rfl s s' h
/-- The slots are the whole buffer. -/
theorem slotSetV_cover : (Finset.univ : Finset (Fin 3)).biUnion slotSetV = Finset.univ :=
  Ring.lead_cover (s := S3x128x12288) 0 1 (fun s : Fin 3 => ![s.val, 0, 0]) S1x128x12288.size slotV_inb (fun s => (Nat.one_mul s.val).symm)
    (fun s a ha => by fin_cases a; · exact absurd rfl ha
                      · rfl
                      rfl) rfl (fun a ha => by fin_cases a; · exact absurd rfl ha
                                               · rfl
                                               rfl) (by decide)

/-- The matrix whole is its blocks at home; -/
theorem matV_eq (c : Dev nD) (M : Buf (Elt F) (hbmV.view.loc (c : Thread nD τ))) :
    (((c : Thread nD τ).loc main_arg3) ↦{fullShare} M : sProp 𝕄) = bigSep Finset.univ (homeV c M) := by
  rw [Ring.pointsTo_blocks (ℓ := (c : Thread nD τ).loc main_arg3) rowSetV rowSetV_disjoint rowSetV_cover]
  exact bigSep_congr fun b _ => by rw [← rowsV_set]; rfl
/-- the first three apart from the rest. -/
theorem homesV_zero (c : Dev nD) (M : Buf (Elt F) (hbmV.view.loc (c : Thread nD τ))) :
    bigSep Finset.univ (homeV c M) = iprop(homeV c M 0 ∗ homeV c M 1 ∗ homeV c M 2 ∗ bigSep (Ring.homeSet 3 0) (homeV c M)) := by
  have e : (Finset.univ : Finset (Fin 32)) = insert 0 (insert 1 (insert 2 (Ring.homeSet (NB := 32) 3 0))) := by decide
  rw [e, bigSep_insert (by decide), bigSep_insert (by decide), bigSep_insert (by decide)]; rfl

/-- Holding a slot is holding its rectangle of the buffer. -/
theorem holdsV_eq (c : Dev nD) (s : Fin 3) (f) : holdsV c s f = (((c : Thread nD τ).loc cc0_scratch1) ↦[slotSetV s]{fullShare} f : sProp 𝕄) :=
  congrArg (fun S => (_ ↦[S]{fullShare} f : sProp 𝕄)) (slotV_set s)
/-- The buffer whole is its three slots, -/
theorem bufV_split (c : Dev nD) :
    iprop(∃ f : Buf (Elt F) ((c : Thread nD τ).loc cc0_scratch1), ((c : Thread nD τ).loc cc0_scratch1) ↦{fullShare} f)
      ⊢ (iprop((∃ f, holdsV c 0 f) ∗ (∃ f, holdsV c 1 f) ∗ ∃ f, holdsV c 2 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) slotSetV slotSetV_disjoint slotSetV_cover f).trans (bigSep_fin3' _))) $$ H
  icases H2 with ⟨H0, H1, H2⟩
  isplitl [H0]
  · iexists f; iapply (entails_of_eq (holdsV_eq c 0 f).symm); iexact H0
  isplitl [H1]
  · iexists f; iapply (entails_of_eq (holdsV_eq c 1 f).symm); iexact H1
  iexists f; iapply (entails_of_eq (holdsV_eq c 2 f).symm); iexact H2
/-- and the three slots, each at anything, are the buffer. -/
theorem bufV_join (c : Dev nD) :
    iprop((∃ f, holdsV c 0 f) ∗ (∃ f, holdsV c 1 f) ∗ ∃ f, holdsV c 2 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch1) slotSetV slotSetV_disjoint slotSetV_cover f0)
  irw [bigSep_fin3']
  isplitl [H0]
  · iexists f0; iapply (entails_of_eq (holdsV_eq c 0 f0)); iexact H0
  isplitl [H1]
  · iexists f1; iapply (entails_of_eq (holdsV_eq c 1 f1)); iexact H1
  iexists f2; iapply (entails_of_eq (holdsV_eq c 2 f2)); iexact H2

/-- The accumulator whole. -/
theorem acc_whole (c : Dev nD) (f) : accAt c f = (((c : Thread nD τ).loc cc0_scratch2) ↦{fullShare} f : sProp 𝕄) :=
  congrArg (fun S => (_ ↦[S]{fullShare} f : sProp 𝕄)) (View.set_whole _)

/-! ## The launch -/

section Launch

variable (m : (ℓ : Loc nD τ sig) → Buf (Elt F) ℓ) (ρ : Dev nD → PrngReg)

/-- The kernel's own semaphores: the six slots'. -/
abbrev osem : Fin 6 → SemLoc sig := fun
  | 0 => .dma (cellE 0).sem | 1 => .dma (cellE 1).sem | 2 => .dma (cellE 2).sem
  | 3 => .dma (cellV 0).sem | 4 => .dma (cellV 1).sem | 5 => .dma (cellV 2).sem
/-- The kernel's six semaphores are distinct and its own. -/
theorem ownSemFacts : Pipeline.OwnSemFacts spec0 osem := by decide

/-- Its semaphores at zero, one by one. -/
theorem ownSems0_eq (c : Dev nD) : (Pipeline.ownSems0 (Ix := Unit) (Name := ℕ) (U := UU nD τ) (Lvl := ℕ) (Val := Elt F) (τ := τ) osem c : sProp 𝕄)
    = iprop(atZeroE (F := F) c 0 ∗ atZeroE (F := F) c 1 ∗ atZeroE (F := F) c 2 ∗ atZeroV (F := F) c 0 ∗ atZeroV (F := F) c 1 ∗ atZeroV (F := F) c 2) := by
  unfold Pipeline.ownSems0
  exact bigSep_univ_eq_bigSepL [(0 : Fin 6), (1 : Fin 6), (2 : Fin 6), (3 : Fin 6), (4 : Fin 6), (5 : Fin 6)] (by decide) (by decide) _

/-- The matrices as the region finds them. -/
abbrev matE (c : Dev nD) : Buf (Elt F) (hbmE.view.loc (c : Thread nD τ)) := V m c main_arg4
/-- The vertices' matrix, likewise. -/
abbrev matV (c : Dev nD) : Buf (Elt F) (hbmV.view.loc (c : Thread nD τ)) := V m c main_arg3

/-- The region's invariant, the same before and after its one point: every block of both matrices home, slots and accumulator
at anything, the semaphores at zero. -/
def Φ (c : Dev nD) : sProp 𝕄 :=
  iprop(bigSep Finset.univ (homeE c (matE m c)) ∗ bigSep Finset.univ (homeV c (matV m c))
    ∗ ((∃ f, holdsE (F := F) c 0 f) ∗ (∃ f, holdsE (F := F) c 1 f) ∗ (∃ f, holdsE (F := F) c 2 f)) ∗ ((∃ f, holdsV (F := F) c 0 f) ∗ (∃ f, holdsV (F := F) c 1 f) ∗ (∃ f, holdsV (F := F) c 2 f)) ∗ (atZeroE (F := F) c 0 ∗ atZeroE (F := F) c 1 ∗ atZeroE (F := F) c 2) ∗ (atZeroV (F := F) c 0 ∗ atZeroV (F := F) c 1 ∗ atZeroV (F := F) c 2) ∗ (∃ f, accAt (F := F) c f))

/-- The operands' staging at point `t`, -/
abbrev stg (t : Fin cfg0.N) : Stage where
  a2 := win0_0.stage (cfg0.slots t 0)
  h2 := hstage0_0 0
  a3 := win0_1.stage (cfg0.slots t 1)
  h3 := hstage0_1 0
  a4 := win0_2.stage (cfg0.slots t 2)
  h4 := hstage0_2 0
  a5 := win0_3.stage (cfg0.slots t 3)
  h5 := hstage0_3 0
  a6 := win0_4.stage (cfg0.slots t 4)
  h6 := hstage0_4 0
  a7 := win0_5.stage (cfg0.slots t 5)
  h7 := hstage0_5 0
  a8 := win0_6.stage (cfg0.slots t 6)
  h8 := hstage0_6 0
  a9 := win0_7.stage (cfg0.slots t 7)
  h9 := hstage0_7 0
  a10 := win0_8.stage (cfg0.slots t 8)
  h10 := hstage0_8 0
  a11 := win0_9.stage (cfg0.slots t 9)
  h11 := hstage0_9 0
  a12 := win0_10.stage (cfg0.slots t 10)
  h12 := hstage0_10 0
  a13 := win0_11.stage (cfg0.slots t 11)
  h13 := hstage0_11 0
  a14 := win0_12.stage (cfg0.slots t 12)
  h14 := hstage0_12 0
  a15 := win0_13.stage (cfg0.slots t 13)
  h15 := hstage0_13 0
  a16 := win0_14.stage (cfg0.slots t 14)
  h16 := hstage0_14 0
  a17 := win0_15.stage (cfg0.slots t 15)
  h17 := hstage0_15 0
/-- and its contents: each operand's block. -/
abbrev ins (c : Dev nD) (t : Fin cfg0.N) : Ins F c (stg t) where
  x2 := (stg t).a2.view.rep (iblk m c 0 t)
  x3 := (stg t).a3.view.rep (iblk m c 1 t)
  x4 := (stg t).a4.view.rep (iblk m c 2 t)
  x5 := (stg t).a5.view.rep (iblk m c 3 t)
  x6 := (stg t).a6.view.rep (iblk m c 4 t)
  x7 := (stg t).a7.view.rep (iblk m c 5 t)
  x8 := (stg t).a8.view.rep (iblk m c 6 t)
  x9 := (stg t).a9.view.rep (iblk m c 7 t)
  x10 := (stg t).a10.view.rep (iblk m c 8 t)
  x11 := (stg t).a11.view.rep (iblk m c 9 t)
  x12 := (stg t).a12.view.rep (iblk m c 10 t)
  x13 := (stg t).a13.view.rep (iblk m c 11 t)
  x14 := (stg t).a14.view.rep (iblk m c 12 t)
  x15 := (stg t).a15.view.rep (iblk m c 13 t)
  x16 := (stg t).a16.view.rep (iblk m c 14 t)

/-- The result's row at point `t`. -/
def outAt (c : Dev nD) (t : Fin cfg0.N) : (cfg0.win 15).block.Idx → Elt F (cfg0.win 15).elt :=
  rowOut c (stg t) (ins m c t) (matE m c) (matV m c)

/-- The result's staging after the body reads the row. -/
theorem read_outBuf (c : Dev nD) (t : Fin cfg0.N) (g) :
    (stg t).a17.view.read (Elt F) (outBuf c (stg t) (ins m c t) (matE m c) (matV m c) g) = outAt m c t :=
  View.read_writes_full (Val := Elt F) (stg t).a17.view g inb_S1x64_S1x64_0_0 (rowOut c (stg t) (ins m c t) (matE m c) (matV m c)) []

/-- What each window holds after the body at point `t`: an operand its block, the result its row. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt m c t
    | ⟨n + 16, h⟩ => absurd (show n + 16 < 16 from h) (by omega)
  Φ _ := Φ m c
  q _ := fullShare
  owed _ := 0

/-- Operand 0 before the body: its block. -/
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
/-- Operand 0 after the body: its block still. -/
theorem after_w0 (c : Dev nD) (t : Fin cfg0.N) : (dats m 0 c).after 0 t = iblk m c 0 t := by dsimp only [dats]
/-- Operand 1 before the body: its block. -/
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
/-- Operand 1 after the body: its block still. -/
theorem after_w1 (c : Dev nD) (t : Fin cfg0.N) : (dats m 0 c).after 1 t = iblk m c 1 t := by dsimp only [dats]
/-- Operand 2 before the body: its block. -/
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
/-- Operand 2 after the body: its block still. -/
theorem after_w2 (c : Dev nD) (t : Fin cfg0.N) : (dats m 0 c).after 2 t = iblk m c 2 t := by dsimp only [dats]
/-- Operand 3 before the body: its block. -/
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
/-- Operand 3 after the body: its block still. -/
theorem after_w3 (c : Dev nD) (t : Fin cfg0.N) : (dats m 0 c).after 3 t = iblk m c 3 t := by dsimp only [dats]
/-- Operand 4 before the body: its block. -/
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
/-- Operand 4 after the body: its block still. -/
theorem after_w4 (c : Dev nD) (t : Fin cfg0.N) : (dats m 0 c).after 4 t = iblk m c 4 t := by dsimp only [dats]
/-- Operand 5 before the body: its block. -/
theorem before_w5 (c : Dev nD) (t : Fin cfg0.N) (d) : (dats m 0 c).before 5 t d = iblk m c 5 t := by
  unfold Dat.before; rw [if_pos (fetch0_5 t)]; unfold Dat.fetched Dat.blockOf iblk; dsimp only [dats]; rfl
/-- Operand 5 after the body: its block still. -/
theorem after_w5 (c : Dev nD) (t : Fin cfg0.N) : (dats m 0 c).after 5 t = iblk m c 5 t := by dsimp only [dats]
/-- Operand 6 before the body: its block. -/
theorem before_w6 (c : Dev nD) (t : Fin cfg0.N) (d) : (dats m 0 c).before 6 t d = iblk m c 6 t := by
  unfold Dat.before; rw [if_pos (fetch0_6 t)]; unfold Dat.fetched Dat.blockOf iblk; dsimp only [dats]; rfl
/-- Operand 6 after the body: its block still. -/
theorem after_w6 (c : Dev nD) (t : Fin cfg0.N) : (dats m 0 c).after 6 t = iblk m c 6 t := by dsimp only [dats]
/-- Operand 7 before the body: its block. -/
theorem before_w7 (c : Dev nD) (t : Fin cfg0.N) (d) : (dats m 0 c).before 7 t d = iblk m c 7 t := by
  unfold Dat.before; rw [if_pos (fetch0_7 t)]; unfold Dat.fetched Dat.blockOf iblk; dsimp only [dats]; rfl
/-- Operand 7 after the body: its block still. -/
theorem after_w7 (c : Dev nD) (t : Fin cfg0.N) : (dats m 0 c).after 7 t = iblk m c 7 t := by dsimp only [dats]
/-- Operand 8 before the body: its block. -/
theorem before_w8 (c : Dev nD) (t : Fin cfg0.N) (d) : (dats m 0 c).before 8 t d = iblk m c 8 t := by
  unfold Dat.before; rw [if_pos (fetch0_8 t)]; unfold Dat.fetched Dat.blockOf iblk; dsimp only [dats]; rfl
/-- Operand 8 after the body: its block still. -/
theorem after_w8 (c : Dev nD) (t : Fin cfg0.N) : (dats m 0 c).after 8 t = iblk m c 8 t := by dsimp only [dats]
/-- Operand 9 before the body: its block. -/
theorem before_w9 (c : Dev nD) (t : Fin cfg0.N) (d) : (dats m 0 c).before 9 t d = iblk m c 9 t := by
  unfold Dat.before; rw [if_pos (fetch0_9 t)]; unfold Dat.fetched Dat.blockOf iblk; dsimp only [dats]; rfl
/-- Operand 9 after the body: its block still. -/
theorem after_w9 (c : Dev nD) (t : Fin cfg0.N) : (dats m 0 c).after 9 t = iblk m c 9 t := by dsimp only [dats]
/-- Operand 10 before the body: its block. -/
theorem before_w10 (c : Dev nD) (t : Fin cfg0.N) (d) : (dats m 0 c).before 10 t d = iblk m c 10 t := by
  unfold Dat.before; rw [if_pos (fetch0_10 t)]; unfold Dat.fetched Dat.blockOf iblk; dsimp only [dats]; rfl
/-- Operand 10 after the body: its block still. -/
theorem after_w10 (c : Dev nD) (t : Fin cfg0.N) : (dats m 0 c).after 10 t = iblk m c 10 t := by dsimp only [dats]
/-- Operand 11 before the body: its block. -/
theorem before_w11 (c : Dev nD) (t : Fin cfg0.N) (d) : (dats m 0 c).before 11 t d = iblk m c 11 t := by
  unfold Dat.before; rw [if_pos (fetch0_11 t)]; unfold Dat.fetched Dat.blockOf iblk; dsimp only [dats]; rfl
/-- Operand 11 after the body: its block still. -/
theorem after_w11 (c : Dev nD) (t : Fin cfg0.N) : (dats m 0 c).after 11 t = iblk m c 11 t := by dsimp only [dats]
/-- Operand 12 before the body: its block. -/
theorem before_w12 (c : Dev nD) (t : Fin cfg0.N) (d) : (dats m 0 c).before 12 t d = iblk m c 12 t := by
  unfold Dat.before; rw [if_pos (fetch0_12 t)]; unfold Dat.fetched Dat.blockOf iblk; dsimp only [dats]; rfl
/-- Operand 12 after the body: its block still. -/
theorem after_w12 (c : Dev nD) (t : Fin cfg0.N) : (dats m 0 c).after 12 t = iblk m c 12 t := by dsimp only [dats]
/-- Operand 13 before the body: its block. -/
theorem before_w13 (c : Dev nD) (t : Fin cfg0.N) (d) : (dats m 0 c).before 13 t d = iblk m c 13 t := by
  unfold Dat.before; rw [if_pos (fetch0_13 t)]; unfold Dat.fetched Dat.blockOf iblk; dsimp only [dats]; rfl
/-- Operand 13 after the body: its block still. -/
theorem after_w13 (c : Dev nD) (t : Fin cfg0.N) : (dats m 0 c).after 13 t = iblk m c 13 t := by dsimp only [dats]
/-- Operand 14 before the body: its block. -/
theorem before_w14 (c : Dev nD) (t : Fin cfg0.N) (d) : (dats m 0 c).before 14 t d = iblk m c 14 t := by
  unfold Dat.before; rw [if_pos (fetch0_14 t)]; unfold Dat.fetched Dat.blockOf iblk; dsimp only [dats]; rfl
/-- Operand 14 after the body: its block still. -/
theorem after_w14 (c : Dev nD) (t : Fin cfg0.N) : (dats m 0 c).after 14 t = iblk m c 14 t := by dsimp only [dats]
/-- The result after the body: its row. -/
theorem after_w15 (c : Dev nD) (t : Fin cfg0.N) : (dats m 0 c).after 15 t = outAt m c t := by dsimp only [dats]

/-- The region's body is the program's. -/
theorem defs_tc : (defs₀ (F := F)) .tc cfg0.body
    = fun a => cc0__cxn_kernel (Memref.whole main_arg4) (Memref.isWhole_whole _) (Memref.whole main_arg3) (Memref.isWhole_whole _) (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (win0_6.stage (a.2 6)) (hstage0_6 0) (win0_7.stage (a.2 7)) (hstage0_7 0) (win0_8.stage (a.2 8)) (hstage0_8 0) (win0_9.stage (a.2 9)) (hstage0_9 0) (win0_10.stage (a.2 10)) (hstage0_10 0) (win0_11.stage (a.2 11)) (hstage0_11 0) (win0_12.stage (a.2 12)) (hstage0_12 0) (win0_13.stage (a.2 13)) (hstage0_13 0) (win0_14.stage (a.2 14)) (hstage0_14 0) (win0_15.stage (a.2 15)) (hstage0_15 0) (Memref.whole cc0_scratch0) (Memref.isWhole_whole _) (Memref.whole cc0_scratch1) (Memref.isWhole_whole _) (Memref.whole cc0_scratch2) (Memref.isWhole_whole _) cc0_scratch3 cc0_scratch4 := rfl
/-- The body the pipeline calls at point `t` is the kernel on that point's staging. -/
theorem prog_eq (t : Fin cfg0.N) : (defs₀ (F := F)) .tc cfg0.body (cfg0.bodyArgs t (cfg0.slots t)) = body (F := F) (stg t) :=
  (congrFun defs_tc _).trans rfl

set_option maxHeartbeats 4000000 in
set_option backward.isDefEq.respectTransparency.types false in
/-- The body's obligation to the pipeline. -/
theorem body_obligation (c : Dev nD) : BodyObligation (dats (F := F) m 0 c) (defs₀ (F := F)) noVariants () Set.univ := fun t => by
  rw [bigSep_W0, bigSep_W0]
  dsimp only
  simp only [before_w0, before_w1, before_w2, before_w3, before_w4, before_w5, before_w6, before_w7, before_w8, before_w9, before_w10, before_w11, before_w12, before_w13, before_w14, after_w0, after_w1, after_w2, after_w3, after_w4, after_w5, after_w6, after_w7, after_w8, after_w9, after_w10, after_w11, after_w12, after_w13, after_w14, after_w15]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨HhE, HhV, HsE, HsV, HcE, HcV, HA⟩, ⟨%W, -, HW⟩, ⟨%d0, %g0, %hg0, G0⟩, ⟨%d1, %g1, %hg1, G1⟩, ⟨%d2, %g2, %hg2, G2⟩, ⟨%d3, %g3, %hg3, G3⟩, ⟨%d4, %g4, %hg4, G4⟩, ⟨%d5, %g5, %hg5, G5⟩, ⟨%d6, %g6, %hg6, G6⟩, ⟨%d7, %g7, %hg7, G7⟩, ⟨%d8, %g8, %hg8, G8⟩, ⟨%d9, %g9, %hg9, G9⟩, ⟨%d10, %g10, %hg10, G10⟩, ⟨%d11, %g11, %hg11, G11⟩, ⟨%d12, %g12, %hg12, G12⟩, ⟨%d13, %g13, %hg13, G13⟩, ⟨%d14, %g14, %hg14, G14⟩, ⟨%d15, %gO, -, HO⟩⟩
  ihave HE3 := (entails_of_eq (homesE_zero c (matE m c))) $$ HhE
  ihave HV3 := (entails_of_eq (homesV_zero c (matV m c))) $$ HhV
  ihave K0 := (pointsTo_rep_entails (c : Thread nD τ) (stg t).a2 g0 fullShare) $$ G0
  ihave K1 := (pointsTo_rep_entails (c : Thread nD τ) (stg t).a3 g1 fullShare) $$ G1
  ihave K2 := (pointsTo_rep_entails (c : Thread nD τ) (stg t).a4 g2 fullShare) $$ G2
  ihave K3 := (pointsTo_rep_entails (c : Thread nD τ) (stg t).a5 g3 fullShare) $$ G3
  ihave K4 := (pointsTo_rep_entails (c : Thread nD τ) (stg t).a6 g4 fullShare) $$ G4
  ihave K5 := (pointsTo_rep_entails (c : Thread nD τ) (stg t).a7 g5 fullShare) $$ G5
  ihave K6 := (pointsTo_rep_entails (c : Thread nD τ) (stg t).a8 g6 fullShare) $$ G6
  ihave K7 := (pointsTo_rep_entails (c : Thread nD τ) (stg t).a9 g7 fullShare) $$ G7
  ihave K8 := (pointsTo_rep_entails (c : Thread nD τ) (stg t).a10 g8 fullShare) $$ G8
  ihave K9 := (pointsTo_rep_entails (c : Thread nD τ) (stg t).a11 g9 fullShare) $$ G9
  ihave K10 := (pointsTo_rep_entails (c : Thread nD τ) (stg t).a12 g10 fullShare) $$ G10
  ihave K11 := (pointsTo_rep_entails (c : Thread nD τ) (stg t).a13 g11 fullShare) $$ G11
  ihave K12 := (pointsTo_rep_entails (c : Thread nD τ) (stg t).a14 g12 fullShare) $$ G12
  ihave K13 := (pointsTo_rep_entails (c : Thread nD τ) (stg t).a15 g13 fullShare) $$ G13
  ihave K14 := (pointsTo_rep_entails (c : Thread nD τ) (stg t).a16 g14 fullShare) $$ G14
  rw [hg0, hg1, hg2, hg3, hg4, hg5, hg6, hg7, hg8, hg9, hg10, hg11, hg12, hg13, hg14]
  sl_rw [prog_eq t]
  iapply (bodyRun c (stg t) (ins m c t) (matE m c) (matV m c) gO W)
  isplitl [K0 K1 K2 K3 K4 K5 K6 K7 K8 K9 K10 K11 K12 K13 K14 HO HA HW HE3 HsE HcE HV3 HsV HcV]
  · isplitl [K0 K1 K2 K3 K4 K5 K6 K7 K8 K9 K10 K11 K12 K13 K14]
    · isplitl [K0]; · iexact K0
      isplitl [K1]; · iexact K1
      isplitl [K2]; · iexact K2
      isplitl [K3]; · iexact K3
      isplitl [K4]; · iexact K4
      isplitl [K5]; · iexact K5
      isplitl [K6]; · iexact K6
      isplitl [K7]; · iexact K7
      isplitl [K8]; · iexact K8
      isplitl [K9]; · iexact K9
      isplitl [K10]; · iexact K10
      isplitl [K11]; · iexact K11
      isplitl [K12]; · iexact K12
      isplitl [K13]; · iexact K13
      iexact K14
    isplitl [HO]; · iexact HO
    isplitl [HA]; · iexact HA
    isplitl [HW]; · iexact HW
    isplitl [HE3]; · iexact HE3
    isplitl [HsE]; · iexact HsE
    isplitl [HcE]; · iexact HcE
    isplitl [HV3]; · iexact HV3
    isplitl [HsV]; · iexact HsV
    iexact HcV
  · iintro ⟨⟨K0, K1, K2, K3, K4, K5, K6, K7, K8, K9, K10, K11, K12, K13, K14⟩, HO, HA, ⟨%W', HW⟩, HhE, ⟨⟨HcE0, HsE0⟩, ⟨HcE1, HsE1⟩, ⟨HcE2, HsE2⟩⟩, HhV, ⟨⟨HcV0, HsV0⟩, ⟨HcV1, HsV1⟩, ⟨HcV2, HsV2⟩⟩⟩
    isplitl [HhE HhV HcE0 HsE0 HcE1 HsE1 HcE2 HsE2 HcV0 HsV0 HcV1 HsV1 HcV2 HsV2 HA]
    · isplitl [HhE]; · iexact HhE
      isplitl [HhV]; · iexact HhV
      isplitl [HsE0 HsE1 HsE2]
      · isplitl [HsE0]; · iexact HsE0
        isplitl [HsE1]; · iexact HsE1
        iexact HsE2
      isplitl [HsV0 HsV1 HsV2]
      · isplitl [HsV0]; · iexact HsV0
        isplitl [HsV1]; · iexact HsV1
        iexact HsV2
      isplitl [HcE0 HcE1 HcE2]
      · isplitl [HcE0]; · iexact HcE0
        isplitl [HcE1]; · iexact HcE1
        iexact HcE2
      isplitl [HcV0 HcV1 HcV2]
      · isplitl [HcV0]; · iexact HcV0
        isplitl [HcV1]; · iexact HcV1
        iexact HcV2
      iexact HA
    isplitl [HW]
    · iexists W'; isplitr; · ipureintro; exact fun _ _ => Or.inl trivial
      iexact HW
    isplitl [K0]
    · iexists _; isplitr; · ipureintro; exact View.read_rep _ _
      iexact K0
    isplitl [K1]
    · iexists _; isplitr; · ipureintro; exact View.read_rep _ _
      iexact K1
    isplitl [K2]
    · iexists _; isplitr; · ipureintro; exact View.read_rep _ _
      iexact K2
    isplitl [K3]
    · iexists _; isplitr; · ipureintro; exact View.read_rep _ _
      iexact K3
    isplitl [K4]
    · iexists _; isplitr; · ipureintro; exact View.read_rep _ _
      iexact K4
    isplitl [K5]
    · iexists _; isplitr; · ipureintro; exact View.read_rep _ _
      iexact K5
    isplitl [K6]
    · iexists _; isplitr; · ipureintro; exact View.read_rep _ _
      iexact K6
    isplitl [K7]
    · iexists _; isplitr; · ipureintro; exact View.read_rep _ _
      iexact K7
    isplitl [K8]
    · iexists _; isplitr; · ipureintro; exact View.read_rep _ _
      iexact K8
    isplitl [K9]
    · iexists _; isplitr; · ipureintro; exact View.read_rep _ _
      iexact K9
    isplitl [K10]
    · iexists _; isplitr; · ipureintro; exact View.read_rep _ _
      iexact K10
    isplitl [K11]
    · iexists _; isplitr; · ipureintro; exact View.read_rep _ _
      iexact K11
    isplitl [K12]
    · iexists _; isplitr; · ipureintro; exact View.read_rep _ _
      iexact K12
    isplitl [K13]
    · iexists _; isplitr; · ipureintro; exact View.read_rep _ _
      iexact K13
    isplitl [K14]
    · iexists _; isplitr; · ipureintro; exact View.read_rep _ _
      iexact K14
    iexists _; isplitr; · ipureintro; exact read_outBuf m c t gO
    iexact HO

/-! ## The run -/

/-- What the launch puts into the invariant. -/
def intoΦ (c : Dev nD) : sProp 𝕄 :=
  iprop(bigSep Finset.univ (homeE c (matE m c)) ∗ bigSep Finset.univ (homeV c (matV m c)) ∗ Pipeline.ownSems0 osem c)
/-- What it takes back from the invariant. -/
def outOfΦ (c : Dev nD) : sProp 𝕄 :=
  iprop(bigSep Finset.univ (homeE c (matE m c)) ∗ bigSep Finset.univ (homeV c (matV m c)))
/-- The arguments the kernel reads only through the windows' arrays. -/
def others (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8) ∗ (((c : Thread nD τ).loc main_arg9) ↦{fullShare} V m c main_arg9) ∗ (((c : Thread nD τ).loc main_arg10) ↦{fullShare} V m c main_arg10) ∗ (((c : Thread nD τ).loc main_arg11) ↦{fullShare} V m c main_arg11) ∗ (((c : Thread nD τ).loc main_arg12) ↦{fullShare} V m c main_arg12) ∗ (((c : Thread nD τ).loc main_arg13) ↦{fullShare} V m c main_arg13) ∗ (((c : Thread nD τ).loc main_arg14) ↦{fullShare} V m c main_arg14) ∗ (((c : Thread nD τ).loc main_arg15) ↦{fullShare} V m c main_arg15) ∗ (((c : Thread nD τ).loc main_arg16) ↦{fullShare} V m c main_arg16))
/-- The ghost state the launch starts from. -/
def u₀ : UU nD τ := (initOf (Pipeline.cells cfgs Cert.KernelIdeal.Gen.cellOf_inj) (Pipeline.launchToks cfgs Cert.KernelIdeal.Gen.cellOf_inj), 1)

/-- Every argument as the region finds it. -/
def Kept (c : Dev nD) (s : MemSt nD τ sig (Elt F)) : Prop :=
  s.mem ((c : Thread nD τ).loc main_arg0) = V m c main_arg0
  ∧ s.mem ((c : Thread nD τ).loc main_arg1) = V m c main_arg1
  ∧ s.mem ((c : Thread nD τ).loc main_arg2) = V m c main_arg2
  ∧ s.mem ((c : Thread nD τ).loc main_arg3) = V m c main_arg3
  ∧ s.mem ((c : Thread nD τ).loc main_arg4) = V m c main_arg4
  ∧ s.mem ((c : Thread nD τ).loc main_arg5) = V m c main_arg5
  ∧ s.mem ((c : Thread nD τ).loc main_arg6) = V m c main_arg6
  ∧ s.mem ((c : Thread nD τ).loc main_arg7) = V m c main_arg7
  ∧ s.mem ((c : Thread nD τ).loc main_arg8) = V m c main_arg8
  ∧ s.mem ((c : Thread nD τ).loc main_arg9) = V m c main_arg9
  ∧ s.mem ((c : Thread nD τ).loc main_arg10) = V m c main_arg10
  ∧ s.mem ((c : Thread nD τ).loc main_arg11) = V m c main_arg11
  ∧ s.mem ((c : Thread nD τ).loc main_arg12) = V m c main_arg12
  ∧ s.mem ((c : Thread nD τ).loc main_arg13) = V m c main_arg13
  ∧ s.mem ((c : Thread nD τ).loc main_arg14) = V m c main_arg14
  ∧ s.mem ((c : Thread nD τ).loc main_arg15) = V m c main_arg15
  ∧ s.mem ((c : Thread nD τ).loc main_arg16) = V m c main_arg16

/-- The final states: every window's array at what the windows left, every argument kept, every semaphore at zero. -/
def Final : PUnit × MemSt nD τ sig (Elt F) → Prop := fun r =>
  (∀ c : Dev nD, (∀ w : Fin cfg0.W, r.2.mem ((cfg0.win w).arr.view.loc (c : Thread nD τ)) = (dats m 0 c).arrAt w cfg0.N) ∧ Kept m c r.2)
    ∧ r.2.sem = fun _ => 0

set_option maxHeartbeats 1600000 in
set_option backward.isDefEq.respectTransparency.types false in
/-- From any memory with every semaphore at zero the program runs to such a state. -/
theorem run_main : θ_run defs (onTc (τ := τ) (main (F := F))) (s₀ m ρ) (Final m) :=
  Pipeline.θ_run_region_kit_quiescent cfgs (dats m) () (0 : Fin 1) launch0 ownSemFacts EP defs₀ noVariants m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ noVariants m main hostOps0 hostOps0_sub hostOps0_fresh main_chain)
    (hA := fun _ _ => rfl)
    (X := intoΦ m) (Y := outOfΦ m) (Z := others m)
    (hX := fun c => by
      rw [unscopedRest0_eq, matE_eq c (matE m c), matV_eq c (matV m c)]
      unfold intoΦ others
      iintro ⟨⟨A0, A1, A2, A3, A4, A5, A6, A7, A8, A9, A10, A11, A12, A13, A14, A15, A16⟩, HS, -, -, -⟩; imodintro
      isplitl [A3 A4 HS]
      · isplitl [A4]; · iexact A4
        isplitl [A3]; · iexact A3
        iexact HS
      isplitl [A0]; · iexact A0
      isplitl [A1]; · iexact A1
      isplitl [A2]; · iexact A2
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      isplitl [A15]; · iexact A15
      iexact A16)
    (hin := fun c => by
      rw [scopedRest0_eq, show (dats m 0 c).Φ 0 = Φ m c from rfl]
      unfold intoΦ Φ; rw [ownSems0_eq]
      iintro ⟨⟨HE, HV, C0, C1, C2, C3, C4, C5⟩, BE, BV, ⟨%f, BA⟩⟩
      ihave HsE := (bufE_split c) $$ BE
      ihave HsV := (bufV_split c) $$ BV
      isplitl [HE]; · iexact HE
      isplitl [HV]; · iexact HV
      isplitl [HsE]; · iexact HsE
      isplitl [HsV]; · iexact HsV
      isplitl [C0 C1 C2]
      · isplitl [C0]; · iexact C0
        isplitl [C1]; · iexact C1
        iexact C2
      isplitl [C3 C4 C5]
      · isplitl [C3]; · iexact C3
        isplitl [C4]; · iexact C4
        iexact C5
      iexists f; iapply (entails_of_eq (acc_whole c f).symm); iexact BA)
    (hout := fun c => by
      rw [scopedRest0_eq, show (dats m 0 c).Φ (Fin.last cfg0.N) = Φ m c from rfl, ownSems0_eq]
      unfold Φ outOfΦ
      iintro ⟨HE, HV, HsE, HsV, ⟨C0, C1, C2⟩, ⟨C3, C4, C5⟩, ⟨%f, BA⟩⟩
      isplitl [HE HV]
      · isplitl [HE]; · iexact HE
        iexact HV
      isplitl [C0 C1 C2 C3 C4 C5]
      · isplitl [C0]; · iexact C0
        isplitl [C1]; · iexact C1
        isplitl [C2]; · iexact C2
        isplitl [C3]; · iexact C3
        isplitl [C4]; · iexact C4
        iexact C5
      isplitl [HsE]; · iapply (bufE_join c); iexact HsE
      isplitl [HsV]; · iapply (bufV_join c); iexact HsV
      iexists f; iapply (entails_of_eq (acc_whole c f)); iexact BA)
    (QY := Kept m)
    (hY := fun c s' => by
      unfold outOfΦ others; rw [← matE_eq c (matE m c), ← matV_eq c (matV m c)]
      iintro ⟨⟨A4, A3⟩, ⟨A0, A1, A2, A5, A6, A7, A8, A9, A10, A11, A12, A13, A14, A15, A16⟩, HSI⟩
      icombine HSI A0 gives %h0
      icombine HSI A1 gives %h1
      icombine HSI A2 gives %h2
      icombine HSI A3 gives %h3
      icombine HSI A4 gives %h4
      icombine HSI A5 gives %h5
      icombine HSI A6 gives %h6
      icombine HSI A7 gives %h7
      icombine HSI A8 gives %h8
      icombine HSI A9 gives %h9
      icombine HSI A10 gives %h10
      icombine HSI A11 gives %h11
      icombine HSI A12 gives %h12
      icombine HSI A13 gives %h13
      icombine HSI A14 gives %h14
      icombine HSI A15 gives %h15
      icombine HSI A16 gives %h16
      imodintro
      isplitr; · ipureintro; exact ⟨Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7, Buf.eq_of_forall_mem_univ h8, Buf.eq_of_forall_mem_univ h9, Buf.eq_of_forall_mem_univ h10, Buf.eq_of_forall_mem_univ h11, Buf.eq_of_forall_mem_univ h12, Buf.eq_of_forall_mem_univ h13, Buf.eq_of_forall_mem_univ h14, Buf.eq_of_forall_mem_univ h15, Buf.eq_of_forall_mem_univ h16⟩
      iexact HSI)
    (hQ := fun _ hh hz => ⟨hh, hz⟩)

/-- The arguments kept as the region found them are the arguments as launched. -/
theorem kept_args {c : Dev nD} {s : MemSt nD τ sig (Elt F)} (h : Kept m c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16) :=
  ⟨(h.1).trans (V_main_arg0 m c), (h.2.1).trans (V_main_arg1 m c), (h.2.2.1).trans (V_main_arg2 m c), (h.2.2.2.1).trans (V_main_arg3 m c), (h.2.2.2.2.1).trans (V_main_arg4 m c), (h.2.2.2.2.2.1).trans (V_main_arg5 m c), (h.2.2.2.2.2.2.1).trans (V_main_arg6 m c), (h.2.2.2.2.2.2.2.1).trans (V_main_arg7 m c), (h.2.2.2.2.2.2.2.2.1).trans (V_main_arg8 m c), (h.2.2.2.2.2.2.2.2.2.1).trans (V_main_arg9 m c), (h.2.2.2.2.2.2.2.2.2.2.1).trans (V_main_arg10 m c), (h.2.2.2.2.2.2.2.2.2.2.2.1).trans (V_main_arg11 m c), (h.2.2.2.2.2.2.2.2.2.2.2.2.1).trans (V_main_arg12 m c), (h.2.2.2.2.2.2.2.2.2.2.2.2.2.1).trans (V_main_arg13 m c), (h.2.2.2.2.2.2.2.2.2.2.2.2.2.2.1).trans (V_main_arg14 m c), (h.2.2.2.2.2.2.2.2.2.2.2.2.2.2.2.1).trans (V_main_arg15 m c), (h.2.2.2.2.2.2.2.2.2.2.2.2.2.2.2.2).trans (V_main_arg16 m c)⟩

/-- The claim's frame: the program runs, its arguments end unchanged, every semaphore at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
    ∧ r.2.sem = fun _ => 0) :=
  (θ_run defs _ _).mono (fun _ h => ⟨fun c => kept_args m (h.1 c).2, h.2⟩) (run_main m ρ)

end Launch

end Cert.Proof.PI

end
-- ==== Proof.Val.Math.lean ====
/-
  The network as plain mathematics over the extended reals: three kinds of cells (vertices, edges, faces), one layer each,
  the mean over all 24576 cells, and a last linear layer.
-/
module

public import Idealize.ShloMosaic.PureOps.Ideal

@[expose] public section

noncomputable section

namespace Cert.Proof.Val

open Idealize.ShloMosaic

/-- The slope below zero: what the float constant nearest to one tenth stands for. -/
def slope : EReal := Ideal.ofBits .f32 0x3DCCCCCD#32

/-- The layer's activation. -/
def leaky (x : EReal) : EReal := if 0 ≤ x then x else slope * x

/-- The network's arguments: the features, the two incidence matrices, the weights and the biases. -/
structure Net where
  xv : Fin 4096 → Fin 32 → EReal
  xe : Fin 12288 → Fin 32 → EReal
  xf : Fin 8192 → Fin 32 → EReal
  Gv : Fin 4096 → Fin 12288 → EReal
  Ge : Fin 12288 → Fin 8192 → EReal
  Wv : Fin 64 → Fin 32 → EReal
  bv : Fin 64 → EReal
  We : Fin 64 → Fin 32 → EReal
  be : Fin 64 → EReal
  Wf : Fin 64 → Fin 32 → EReal
  bf : Fin 64 → EReal
  Wev : Fin 64 → Fin 32 → EReal
  bev : Fin 64 → EReal
  Wfe : Fin 64 → Fin 32 → EReal
  bfe : Fin 64 → EReal
  Wl : Fin 64 → Fin 64 → EReal
  bl : Fin 64 → EReal

namespace Net

variable (n : Net)

/-- An edge's new feature before the activation: its own features and the faces' message, each through its weights. -/
def edge (r : Fin 12288) (j : Fin 64) : EReal :=
  ((∑ k, n.xe r k * n.We j k + n.be j) + ∑ k, (∑ l, n.Ge r l * n.xf l k) * n.Wfe j k) + n.bfe j
/-- A vertex's: its own features and the edges' message. -/
def vert (r : Fin 4096) (j : Fin 64) : EReal :=
  ((∑ k, n.xv r k * n.Wv j k + n.bv j) + ∑ k, (∑ l, n.Gv r l * n.xe l k) * n.Wev j k) + n.bev j
/-- A face's: its own features. -/
def face (r : Fin 8192) (j : Fin 64) : EReal := ∑ k, n.xf r k * n.Wf j k + n.bf j

/-- The activations of all cells summed, feature `j`. -/
def total (j : Fin 64) : EReal := (∑ r, leaky (n.vert r j) + ∑ r, leaky (n.edge r j)) + ∑ r, leaky (n.face r j)

/-- The result: the last layer on the mean of the cells, negative means cut to zero. -/
def out (j : Fin 64) : EReal := ∑ k, max (n.total k * ((24576⁻¹ : ℝ) : EReal)) 0 * n.Wl j k + n.bl j

end Net

/-- A sum over all cells, vertices first, then edges, then faces, is the three sums. -/
theorem sum_cells (a : Fin 4096 → EReal) (b : Fin 12288 → EReal) (f : Fin 8192 → EReal) :
    (∑ x : Fin 24576, if h : x.val < 4096 then a ⟨x.val, h⟩ else
      if h' : x.val - 4096 < 12288 then b ⟨x.val - 4096, h'⟩ else f ⟨x.val - 4096 - 12288, by omega⟩)
      = (∑ r, a r + ∑ r, b r) + ∑ r, f r := by
  refine (Fin.sum_univ_add (a := 4096 + 12288) (b := 8192) _).trans ?_
  rw [Fin.sum_univ_add]
  refine congrArg₂ (· + ·) (congrArg₂ (· + ·) ?_ ?_) ?_ <;> refine Finset.sum_congr rfl fun x _ => ?_
  · rw [dif_pos (show (Fin.castAdd 8192 (Fin.castAdd 12288 x)).val < 4096 from x.isLt)]; rfl
  · have e : (Fin.castAdd 8192 (Fin.natAdd 4096 x)).val = 4096 + x.val := rfl
    rw [dif_neg (by rw [e]; omega), dif_pos (by rw [e]; omega)]
    exact congrArg b (Fin.ext (by rw [Fin.val_mk, e]; omega))
  · have e : (Fin.natAdd (4096 + 12288) x).val = 4096 + 12288 + x.val := rfl
    rw [dif_neg (by rw [e]; omega), dif_neg (by rw [e]; omega)]
    exact congrArg f (Fin.ext (by rw [Fin.val_mk, e]; omega))

/-- Dividing by the number of cells is multiplying by its inverse. -/
theorem div_cells (x : EReal) : Ideal.div x ((24576 : ℝ) : EReal) = x * ((24576⁻¹ : ℝ) : EReal) := by
  unfold Ideal.div
  rw [if_neg (by exact_mod_cast (by norm_num : (24576 : ℝ) ≠ 0)), EReal.coe_inv]

end Cert.Proof.Val

end
-- ==== Proof.Val.Pay.lean ====
/-
  What one block computes: the kernel's stored vectors read at an index.
-/
module

public import proofs.«01_k».proof.Proof.Val.Math
public import proofs.«01_k».proof.Proof.Gen.KernelIdeal.Skeleton
public import Idealize.ShloMosaic.Lib.Pointwise

@[expose] public section

noncomputable section

namespace Cert.Proof.Val

open Cert.KernelIdeal Cert.KernelIdeal.Gen Idealize.ShloMosaic Idealize.ShloMosaic.TcCoe

/-- A block of edges before the activation: own features and the message, through their weights, then the two biases. -/
theorem pay2_at (a : Vec Ideal S1x256x8192 .f32) (xf : Vec Ideal S8192x32 .f32) (x : Vec Ideal S256x32 .f32) (w u : Vec Ideal S32x64 .f32)
    (b b' : Vec Ideal S1x64 .f32) (r : Fin 256) (j : Fin 64) :
    k0_pay2 a xf x w u b b' (ix2 r j)
      = ((∑ k, x (ix2 r k) * w (ix2 k j) + ∑ k, (∑ l, a (ix3 0 r l) * xf (ix2 l k)) * u (ix2 k j)) + b (ix2 0 j)) + b' (ix2 0 j) := by
  pointwise [k0_pay2]

/-- A block of vertices, likewise. -/
theorem pay3_at (a : Vec Ideal S1x128x12288 .f32) (xe : Vec Ideal S12288x32 .f32) (x : Vec Ideal S128x32 .f32) (w u : Vec Ideal S32x64 .f32)
    (b b' : Vec Ideal S1x64 .f32) (r : Fin 128) (j : Fin 64) :
    k0_pay3 a xe x w u b b' (ix2 r j)
      = ((∑ k, x (ix2 r k) * w (ix2 k j) + ∑ k, (∑ l, a (ix3 0 r l) * xe (ix2 l k)) * u (ix2 k j)) + b (ix2 0 j)) + b' (ix2 0 j) := by
  pointwise [k0_pay3]

/-- The faces' activations, summed. -/
theorem pay4_at (x : Vec Ideal S8192x32 .f32) (w : Vec Ideal S32x64 .f32) (b : Vec Ideal S1x64 .f32) (j : Fin 64) :
    k0_pay4 x w b (ix2 0 j) = ∑ r : Fin 8192, leaky (∑ k, x (ix2 r k) * w (ix2 k j) + b (ix2 0 j)) := by
  pointwise [k0_pay4]
  rfl

/-- The row with a block of edges' activations added. -/
theorem pay5_at (y : FVec Ideal S256x64 .f32) (a : Vec Ideal S1x64 .f32) (j : Fin 64) :
    k0_pay5 y a (FloatOps.ofBits .f32 0x00000000#32) (ix2 0 j) = a (ix2 0 j) + ∑ r : Fin 256, leaky (y (ix2 r j)) := by
  pointwise [k0_pay5]
  rfl

/-- The row with a block of vertices' activations added. -/
theorem pay6_at (y : FVec Ideal S128x64 .f32) (a : Vec Ideal S1x64 .f32) (j : Fin 64) :
    k0_pay6 y a (FloatOps.ofBits .f32 0x00000000#32) (ix2 0 j) = a (ix2 0 j) + ∑ r : Fin 128, leaky (y (ix2 r j)) := by
  pointwise [k0_pay6]
  rfl

/-- The last layer. -/
theorem pay1_at (a : Vec Ideal S1x64 .f32) (t : Ideal .f32) (w : Vec Ideal S64x64 .f32) (b : Vec Ideal S1x64 .f32) (j : Fin 64) :
    k0_pay1 a t w b (ix2 0 j) = ∑ k, max (a (ix2 0 k) * t) 0 * w (ix2 k j) + b (ix2 0 j) := by
  pointwise [k0_pay1]

end Cert.Proof.Val

end
-- ==== Proof.Val.Acc.lean ====
/-
  What the accumulator holds: each trip's layer read at an index, and the row after all trips of a loop.
-/
module

public import proofs.«01_k».proof.Proof.PI.Body
public import proofs.«01_k».proof.Proof.Val.Pay
public import Idealize.ShloMosaic.Lib.VecWindow

@[expose] public section

noncomputable section

namespace Cert.Proof.Val

open Cert.KernelIdeal Cert.KernelIdeal.Gen Cert.Proof.PI Idealize.ShloMosaic Idealize.ShloMosaic.TcCoe

/-- A load of `R` rows from row `o` on, read at row `r`, is row `o + r`. -/
theorem window_rows {A B R : ℕ} (x : (⟨2, ![A, B]⟩ : Shape).Idx → EReal) (off : Fin 2 → ℕ) (o : ℕ) (e : off = ![o, 0])
    (inb : ∀ a, off a + (![R, B] : Fin 2 → ℕ) a ≤ (⟨2, ![A, B]⟩ : Shape).size a) (r : Fin R) (l : Fin B) (h : o + r.val < A) :
    VecWindow.window x off ![R, B] inb (ix2 r l) = x (ix2 ⟨o + r.val, h⟩ l) := by
  subst e
  refine congrArg x (funext fun a => Fin.ext ?_)
  fin_cases a
  · show o + 1 * r.val = o + r.val
    omega
  · show 0 + 1 * l.val = l.val
    omega

/-- Squeezing a leading unit axis away: row `r`, column `l` is `0, r, l`. -/
theorem squeeze_at {a b : ℕ} (h : (⟨2, ![a, b]⟩ : Shape).numel = (⟨3, ![1, a, b]⟩ : Shape).numel) (r : Fin a) (l : Fin b) :
    Shape.reshapeEquiv h (ix2 r l) = ix3 0 r l :=
  Shape.reshapeEquiv_eq_of_rowMajor h (by
    rw [Shape.rowMajor_val_three, Shape.rowMajor_val_two]
    show (0 * a + r.val) * b + l.val = r.val * b + l.val
    rw [Nat.zero_mul, Nat.zero_add])

/-- The message may be added before the bias or after it. -/
theorem bias_swap (a m b b' : EReal) : ((a + m) + b) + b' = ((a + b) + m) + b' := by rw [add_right_comm a m b]

/-- Accumulating `g k` at trip `k` is adding the sum. -/
theorem acc_sum (T : ℕ) (a : ℕ → EReal) (g : Fin T → EReal) (h : ∀ k : Fin T, a (k.val + 1) = a k.val + g k) : a T = a 0 + ∑ k, g k := by
  have key : ∀ n, n ≤ T → a n = a 0 + ∑ k ∈ Finset.range n, if h : k < T then g ⟨k, h⟩ else 0 := by
    intro n
    induction n with
    | zero => intro _; simp
    | succ n ih => intro hn; rw [h ⟨n, hn⟩, ih (by omega), Finset.sum_range_succ, dif_pos (show n < T by omega), add_assoc]
  rw [key T le_rfl, Finset.sum_range]
  exact congrArg (a 0 + ·) (Finset.sum_congr rfl fun k _ => dif_pos k.isLt)

/-- A sum over `NB` blocks of `R` rows is the sum over all rows. -/
theorem sum_blocks {N : ℕ} (NB R : ℕ) (hN : NB * R = N) (g : Fin N → EReal) (e : ∀ (k : Fin NB) (r : Fin R), R * k.val + r.val < N) :
    ∑ k : Fin NB, ∑ r : Fin R, g ⟨R * k.val + r.val, e k r⟩ = ∑ x, g x := by
  subst hN
  rw [← Fintype.sum_prod_type' (f := fun (k : Fin NB) (r : Fin R) => g ⟨R * k.val + r.val, e k r⟩)]
  exact Fintype.sum_equiv finProdFinEquiv _ _ fun x => congrArg g (Fin.ext (by simp [finProdFinEquiv, Nat.add_comm]))

variable (c : Dev nD) (S : Stage) (I : Ins Ideal c S)

/-- The operands' stagings read, the two matrices and the network's arguments are the same numbers. -/
structure Reads (n : Net) (ME : Buf (Elt Ideal) (hbmE.view.loc (c : Thread nD τ))) (MV : Buf (Elt Ideal) (hbmV.view.loc (c : Thread nD τ))) : Prop where
  xv : ∀ r k, S.a2.view.read (Elt Ideal) I.x2 (ix2 r k) = n.xv r k
  xe : ∀ r k, S.a3.view.read (Elt Ideal) I.x3 (ix2 r k) = n.xe r k
  xf : ∀ r k, S.a4.view.read (Elt Ideal) I.x4 (ix2 r k) = n.xf r k
  Wv : ∀ j k, S.a5.view.read (Elt Ideal) I.x5 (ix2 k j) = n.Wv j k
  We : ∀ j k, S.a6.view.read (Elt Ideal) I.x6 (ix2 k j) = n.We j k
  Wf : ∀ j k, S.a7.view.read (Elt Ideal) I.x7 (ix2 k j) = n.Wf j k
  Wev : ∀ j k, S.a8.view.read (Elt Ideal) I.x8 (ix2 k j) = n.Wev j k
  Wfe : ∀ j k, S.a9.view.read (Elt Ideal) I.x9 (ix2 k j) = n.Wfe j k
  bv : ∀ j, S.a10.view.read (Elt Ideal) I.x10 (ix2 0 j) = n.bv j
  be : ∀ j, S.a11.view.read (Elt Ideal) I.x11 (ix2 0 j) = n.be j
  bf : ∀ j, S.a12.view.read (Elt Ideal) I.x12 (ix2 0 j) = n.bf j
  bev : ∀ j, S.a13.view.read (Elt Ideal) I.x13 (ix2 0 j) = n.bev j
  bfe : ∀ j, S.a14.view.read (Elt Ideal) I.x14 (ix2 0 j) = n.bfe j
  Wl : ∀ j k, S.a15.view.read (Elt Ideal) I.x15 (ix2 k j) = n.Wl j k
  bl : ∀ j, S.a16.view.read (Elt Ideal) I.x16 (ix2 0 j) = n.bl j
  Ge : ∀ r l, ME (ix2 r l) = n.Ge r l
  Gv : ∀ r l, MV (ix2 r l) = n.Gv r l

variable {c S I} {n : Net} {ME : Buf (Elt Ideal) (hbmE.view.loc (c : Thread nD τ))} {MV : Buf (Elt Ideal) (hbmV.view.loc (c : Thread nD τ))}

/-! ## The edge loop -/

/-- Row `r` of block `k` is a row of the matrix. -/
theorem rowE_lt (k : Fin k0_t1_loop.trips) (r : Fin 256) : 256 * k.val + r.val < 12288 := by
  have := tripE_lt k; have := r.isLt; omega

/-- What trip `k` reads of its slot at row `r`: row `256 k + r` of the matrix. -/
theorem slotReadE_at (M : Buf (Elt Ideal) (hbmE.view.loc (c : Thread nD τ))) (k : Fin k0_t1_loop.trips) (r : Fin 256) (l : Fin 8192) :
    slotReadE (F := Ideal) c M k (ix3 0 r l) = M (ix2 ⟨256 * k.val + r.val, rowE_lt k r⟩ l) := by
  have e : ∀ f : Buf (Elt Ideal) (bufE.view.loc (c : Thread nD τ)),
      bufE.view.readAt (Elt Ideal) (Rect.unit (s := S3x256x8192) (k0_off4 k) S1x256x8192.size (k0_off4_inb k)).toLoadRect f (ix3 0 r l)
        = (slotE (Ring.sl 3 k.val)).view.read (Elt Ideal) f (ix2 r l) := fun f => by
    have h1 := congrFun (View.readAt_unit (Val := Elt Ideal) bufE.view f (k0_off4_inb k) ((k0_off4_eq k).trans (by rw [Ring.sl_val])) (slotE_inb (Ring.sl 3 k.val))) (ix3 0 r l)
    refine h1.trans (congrArg f ?_)
    refine congrArg (Rect.unit (s := S3x256x8192) ![(Ring.sl 3 k.val).val, 0, 0] S1x256x8192.size (slotE_inb (Ring.sl 3 k.val))).emb ?_
    exact (squeeze_at _ r l).symm
  refine (e _).trans ((congrFun (View.read_writes_whole (Val := Elt Ideal) (slotE (Ring.sl 3 k.val)).view _ _) (ix2 r l)).trans ?_)
  refine congrArg M (funext fun a => Fin.ext ?_)
  fin_cases a
  · show 256 * (Ring.bk 48 k.val).val + 1 * r.val = 256 * k.val + r.val
    rw [Ring.bk_val (tripE_lt k), Nat.one_mul]
  · show 0 + 1 * l.val = l.val
    omega

/-- Trip `k`'s layer at row `r` is the network's, row `256 k + r`. -/
theorem layerE_at (R : Reads c S I n ME MV) (k : Fin k0_t1_loop.trips) (r : Fin 256) (j : Fin 64) :
    layerE c S I ME k (ix2 r j) = n.edge ⟨256 * k.val + r.val, rowE_lt k r⟩ j := by
  unfold layerE Net.edge
  rw [View.readAt_full, View.readAt_full, View.readAt_full, View.readAt_full, View.readAt_full, View.readAt_unit _ _ _ rfl (k0_off5_inb k), pay2_at]
  simp only [R.xf, R.We, R.Wfe, R.be, R.bfe]
  simp only [fun k' => (window_rows _ _ (256 * k.val) (k0_off5_eq k) (k0_off5_inb k) r k' (rowE_lt k r)).trans (R.xe _ k')]
  refine (bias_swap _ _ _ _).trans (congrArg (· + n.bfe j) (congrArg (∑ k', n.xe ⟨256 * k.val + r.val, rowE_lt k r⟩ k' * n.We j k' + n.be j + ·) ?_))
  refine Finset.sum_congr rfl fun k' _ => congrArg (· * n.Wfe j k') (Finset.sum_congr rfl fun l _ => congrArg (· * n.xf l k') ?_)
  exact (slotReadE_at ME k r l).trans (R.Ge _ l)

/-- The accumulator's row after the loop: what it was with every edge's activation added. -/
theorem accE_at (R : Reads c S I n ME MV) (f : Buf (Elt Ideal) (accM.view.loc (c : Thread nD τ))) (j : Fin 64) :
    accM.view.read (Elt Ideal) (accE c S I ME f 48) (ix2 0 j) = accM.view.read (Elt Ideal) f (ix2 0 j) + ∑ r, leaky (n.edge r j) := by
  have step := acc_sum k0_t1_loop.trips (fun k => accM.view.read (Elt Ideal) (accE c S I ME f k) (ix2 0 j))
    (fun k => ∑ r : Fin 256, leaky (n.edge ⟨256 * k.val + r.val, rowE_lt k r⟩ j)) fun k => by
      show accM.view.read (Elt Ideal) (accE c S I ME f (k.val + 1)) (ix2 0 j) = _
      rw [accE_succ]
      refine (congrFun (View.read_writes_full (Val := Elt Ideal) accM.view _ inb_S1x64_S1x64_0_0 (storedE c S I ME k _) []) (ix2 0 j)).trans ?_
      unfold storedE
      rw [pay5_at, View.readAt_full]
      simp only [layerE_at R]
  rw [← tripsE]
  refine step.trans (congrArg (accM.view.read (Elt Ideal) f (ix2 0 j) + ·) ?_)
  exact sum_blocks k0_t1_loop.trips 256 (by rw [tripsE]) (fun x => leaky (n.edge x j)) (rowE_lt)

/-! ## The vertex loop -/

/-- Row `r` of block `k` is a row of the matrix. -/
theorem rowV_lt (k : Fin k0_t2_loop.trips) (r : Fin 128) : 128 * k.val + r.val < 4096 := by
  have := tripV_lt k; have := r.isLt; omega

/-- What trip `k` reads of its slot at row `r`: row `128 k + r` of the matrix. -/
theorem slotReadV_at (M : Buf (Elt Ideal) (hbmV.view.loc (c : Thread nD τ))) (k : Fin k0_t2_loop.trips) (r : Fin 128) (l : Fin 12288) :
    slotReadV (F := Ideal) c M k (ix3 0 r l) = M (ix2 ⟨128 * k.val + r.val, rowV_lt k r⟩ l) := by
  have e : ∀ f : Buf (Elt Ideal) (bufV.view.loc (c : Thread nD τ)),
      bufV.view.readAt (Elt Ideal) (Rect.unit (s := S3x128x12288) (k0_off12 k) S1x128x12288.size (k0_off12_inb k)).toLoadRect f (ix3 0 r l)
        = (slotV (Ring.sl 3 k.val)).view.read (Elt Ideal) f (ix2 r l) := fun f => by
    have h1 := congrFun (View.readAt_unit (Val := Elt Ideal) bufV.view f (k0_off12_inb k) ((k0_off12_eq k).trans (by rw [Ring.sl_val])) (slotV_inb (Ring.sl 3 k.val))) (ix3 0 r l)
    refine h1.trans (congrArg f ?_)
    refine congrArg (Rect.unit (s := S3x128x12288) ![(Ring.sl 3 k.val).val, 0, 0] S1x128x12288.size (slotV_inb (Ring.sl 3 k.val))).emb ?_
    exact (squeeze_at _ r l).symm
  refine (e _).trans ((congrFun (View.read_writes_whole (Val := Elt Ideal) (slotV (Ring.sl 3 k.val)).view _ _) (ix2 r l)).trans ?_)
  refine congrArg M (funext fun a => Fin.ext ?_)
  fin_cases a
  · show 128 * (Ring.bk 32 k.val).val + 1 * r.val = 128 * k.val + r.val
    rw [Ring.bk_val (tripV_lt k), Nat.one_mul]
  · show 0 + 1 * l.val = l.val
    omega

/-- Trip `k`'s layer at row `r` is the network's, row `128 k + r`. -/
theorem layerV_at (R : Reads c S I n ME MV) (k : Fin k0_t2_loop.trips) (r : Fin 128) (j : Fin 64) :
    layerV c S I MV k (ix2 r j) = n.vert ⟨128 * k.val + r.val, rowV_lt k r⟩ j := by
  unfold layerV Net.vert
  rw [View.readAt_full, View.readAt_full, View.readAt_full, View.readAt_full, View.readAt_full, View.readAt_unit _ _ _ rfl (k0_off13_inb k), pay3_at]
  simp only [R.xe, R.Wv, R.Wev, R.bv, R.bev]
  simp only [fun k' => (window_rows _ _ (128 * k.val) (k0_off13_eq k) (k0_off13_inb k) r k' (rowV_lt k r)).trans (R.xv _ k')]
  refine (bias_swap _ _ _ _).trans (congrArg (· + n.bev j) (congrArg (∑ k', n.xv ⟨128 * k.val + r.val, rowV_lt k r⟩ k' * n.Wv j k' + n.bv j + ·) ?_))
  refine Finset.sum_congr rfl fun k' _ => congrArg (· * n.Wev j k') (Finset.sum_congr rfl fun l _ => congrArg (· * n.xe l k') ?_)
  exact (slotReadV_at MV k r l).trans (R.Gv _ l)

/-- The accumulator's row after the loop: what it was with every vertex's activation added. -/
theorem accV_at (R : Reads c S I n ME MV) (f : Buf (Elt Ideal) (accM.view.loc (c : Thread nD τ))) (j : Fin 64) :
    accM.view.read (Elt Ideal) (accV c S I MV f 32) (ix2 0 j) = accM.view.read (Elt Ideal) f (ix2 0 j) + ∑ r, leaky (n.vert r j) := by
  have step := acc_sum k0_t2_loop.trips (fun k => accM.view.read (Elt Ideal) (accV c S I MV f k) (ix2 0 j))
    (fun k => ∑ r : Fin 128, leaky (n.vert ⟨128 * k.val + r.val, rowV_lt k r⟩ j)) fun k => by
      show accM.view.read (Elt Ideal) (accV c S I MV f (k.val + 1)) (ix2 0 j) = _
      rw [accV_succ]
      refine (congrFun (View.read_writes_full (Val := Elt Ideal) accM.view _ inb_S1x64_S1x64_0_0 (storedV c S I MV k _) []) (ix2 0 j)).trans ?_
      unfold storedV
      rw [pay6_at, View.readAt_full]
      simp only [layerV_at R]
  rw [← tripsV]
  refine step.trans (congrArg (accM.view.read (Elt Ideal) f (ix2 0 j) + ·) ?_)
  exact sum_blocks k0_t2_loop.trips 128 (by rw [tripsV]) (fun x => leaky (n.vert x j)) (rowV_lt)

/-! ## The result's row -/

/-- The accumulator's first contents: the faces' activations summed. -/
theorem row0_at (R : Reads c S I n ME MV) (j : Fin 64) : row0 c S I (ix2 0 j) = ∑ r, leaky (n.face r j) := by
  unfold row0 Net.face
  rw [View.readAt_full, View.readAt_full, View.readAt_full, pay4_at]
  simp only [R.xf, R.Wf, R.bf]

/-- The row the kernel stores is the network's result. -/
theorem rowOut_at (R : Reads c S I n ME MV) (j : Fin 64) (ht : Named.named (F := Ideal) κ "inv_cells" (φ := .f32) 0x382AAAAB#32 = ((24576⁻¹ : ℝ) : EReal)) :
    rowOut c S I ME MV (ix2 0 j) = n.out j := by
  unfold rowOut Net.out
  rw [View.readAt_full, View.readAt_full, View.readAt_full, pay1_at, ht]
  simp only [R.Wl, R.bl]
  refine congrArg (· + n.bl j) (Finset.sum_congr rfl fun k _ => ?_)
  refine congrArg (fun y => max (y * ((24576⁻¹ : ℝ) : EReal)) 0 * n.Wl j k) ?_
  unfold acc2 acc1 acc0
  rw [accV_at R, accE_at R]
  rw [show accM.view.read (Elt Ideal) (accM.view.writes (Elt Ideal) accM.view.junk [⟨R00, row0 c S I⟩]) (ix2 0 k) = ∑ r, leaky (n.face r k) from
    (congrFun (View.read_writes_full (Val := Elt Ideal) accM.view _ inb_S1x64_S1x64_0_0 (row0 c S I) []) (ix2 0 k)).trans (row0_at R k)]
  unfold Net.total
  rw [add_assoc, add_comm, add_comm (∑ r, leaky (n.edge r k))]

end Cert.Proof.Val

end
-- ==== Proof.Val.Kernel.lean ====
/-
  What the kernel's result array holds: the operands its launch hands to the body are the arguments, reshaped or transposed,
  so the row the body stores is the network's result on the kernel's arguments.
-/
module

public import proofs.«01_k».proof.Proof.PI.Run
public import proofs.«01_k».proof.Proof.Val.Acc
public import Idealize.ShloMosaic.Lib.Pipeline.ValueKit
public import Idealize.ShloMosaic.Lib.StableHlo.Run
public import Idealize.ShloMosaic.Lib.Pointwise

@[expose] public section

set_option maxRecDepth 16384

noncomputable section

namespace Cert.Proof.Val

open Cert.KernelIdeal Cert.KernelIdeal.Gen Cert.Proof.PI Idealize.ShloMosaic Idealize.ShloMosaic.TcCoe

variable (m : (ℓ : Loc nD τ sig) → Buf (Elt Ideal) ℓ) (c : Dev nD)

/-- The kernel's arguments as the network's. -/
def kerNet : Net where
  xv r k := m ((c.tc : Thread nD τ).loc main_arg0) (ix3 0 r k)
  xe r k := m ((c.tc : Thread nD τ).loc main_arg1) (ix3 0 r k)
  xf r k := m ((c.tc : Thread nD τ).loc main_arg2) (ix3 0 r k)
  Gv r k := m ((c.tc : Thread nD τ).loc main_arg3) (ix2 r k)
  Ge r k := m ((c.tc : Thread nD τ).loc main_arg4) (ix2 r k)
  Wv r k := m ((c.tc : Thread nD τ).loc main_arg5) (ix2 r k)
  bv r := m ((c.tc : Thread nD τ).loc main_arg6) (ix1 r)
  We r k := m ((c.tc : Thread nD τ).loc main_arg7) (ix2 r k)
  be r := m ((c.tc : Thread nD τ).loc main_arg8) (ix1 r)
  Wf r k := m ((c.tc : Thread nD τ).loc main_arg9) (ix2 r k)
  bf r := m ((c.tc : Thread nD τ).loc main_arg10) (ix1 r)
  Wev r k := m ((c.tc : Thread nD τ).loc main_arg11) (ix2 r k)
  bev r := m ((c.tc : Thread nD τ).loc main_arg12) (ix1 r)
  Wfe r k := m ((c.tc : Thread nD τ).loc main_arg13) (ix2 r k)
  bfe r := m ((c.tc : Thread nD τ).loc main_arg14) (ix1 r)
  Wl r k := m ((c.tc : Thread nD τ).loc main_arg15) (ix2 r k)
  bl r := m ((c.tc : Thread nD τ).loc main_arg16) (ix1 r)

/-- Every operand's one block starts at the array's corner. -/
theorem index_zero : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

/-! ## The operands the launch hands over, read at an index -/

/-- Window 0's array read at an index is argument 0's entry. -/
theorem arr_xv (r : Fin 4096) (k : Fin 32) : V m c main_v0 (ix2 r k) = (kerNet m c).xv r k := by
  have e : V m c main_v0 = shapeCast S4096x32 (m ((c.tc : Thread nD τ).loc main_arg0)) shapeCasts_S1x4096x32_S4096x32 := by
    unfold V hostOps0
    after_results_simp
    try rfl
  rw [e]
  exact congrArg (m ((c.tc : Thread nD τ).loc main_arg0)) (squeeze_at _ r k)

/-- Window 1's array read at an index is argument 1's entry. -/
theorem arr_xe (r : Fin 12288) (k : Fin 32) : V m c main_v1 (ix2 r k) = (kerNet m c).xe r k := by
  have e : V m c main_v1 = shapeCast S12288x32 (m ((c.tc : Thread nD τ).loc main_arg1)) shapeCasts_S1x12288x32_S12288x32 := by
    unfold V hostOps0
    after_results_simp
    try rfl
  rw [e]
  exact congrArg (m ((c.tc : Thread nD τ).loc main_arg1)) (squeeze_at _ r k)

/-- Window 2's array read at an index is argument 2's entry. -/
theorem arr_xf (r : Fin 8192) (k : Fin 32) : V m c main_v2 (ix2 r k) = (kerNet m c).xf r k := by
  have e : V m c main_v2 = shapeCast S8192x32 (m ((c.tc : Thread nD τ).loc main_arg2)) shapeCasts_S1x8192x32_S8192x32 := by
    unfold V hostOps0
    after_results_simp
    try rfl
  rw [e]
  exact congrArg (m ((c.tc : Thread nD τ).loc main_arg2)) (squeeze_at _ r k)

/-- Window 3's array read at an index is argument 5's entry. -/
theorem arr_Wv (j : Fin 64) (k : Fin 32) : V m c main_v3 (ix2 k j) = (kerNet m c).Wv j k := by
  have e : V m c main_v3 = transpose S32x64 [1, 0] (m ((c.tc : Thread nD τ).loc main_arg5)) transposes_S64x32_S32x64_1_0 := by
    unfold V hostOps0
    after_results_simp
    try rfl
  rw [e]
  pointwise
  try rfl

/-- Window 4's array read at an index is argument 7's entry. -/
theorem arr_We (j : Fin 64) (k : Fin 32) : V m c main_v4 (ix2 k j) = (kerNet m c).We j k := by
  have e : V m c main_v4 = transpose S32x64 [1, 0] (m ((c.tc : Thread nD τ).loc main_arg7)) transposes_S64x32_S32x64_1_0 := by
    unfold V hostOps0
    after_results_simp
    try rfl
  rw [e]
  pointwise
  try rfl

/-- Window 5's array read at an index is argument 9's entry. -/
theorem arr_Wf (j : Fin 64) (k : Fin 32) : V m c main_v5 (ix2 k j) = (kerNet m c).Wf j k := by
  have e : V m c main_v5 = transpose S32x64 [1, 0] (m ((c.tc : Thread nD τ).loc main_arg9)) transposes_S64x32_S32x64_1_0 := by
    unfold V hostOps0
    after_results_simp
    try rfl
  rw [e]
  pointwise
  try rfl

/-- Window 6's array read at an index is argument 11's entry. -/
theorem arr_Wev (j : Fin 64) (k : Fin 32) : V m c main_v6 (ix2 k j) = (kerNet m c).Wev j k := by
  have e : V m c main_v6 = transpose S32x64 [1, 0] (m ((c.tc : Thread nD τ).loc main_arg11)) transposes_S64x32_S32x64_1_0 := by
    unfold V hostOps0
    after_results_simp
    try rfl
  rw [e]
  pointwise
  try rfl

/-- Window 7's array read at an index is argument 13's entry. -/
theorem arr_Wfe (j : Fin 64) (k : Fin 32) : V m c main_v7 (ix2 k j) = (kerNet m c).Wfe j k := by
  have e : V m c main_v7 = transpose S32x64 [1, 0] (m ((c.tc : Thread nD τ).loc main_arg13)) transposes_S64x32_S32x64_1_0 := by
    unfold V hostOps0
    after_results_simp
    try rfl
  rw [e]
  pointwise
  try rfl

/-- Window 8's array read at an index is argument 6's entry. -/
theorem arr_bv (j : Fin 64) : V m c main_v8 (ix2 0 j) = (kerNet m c).bv j := by
  have e : V m c main_v8 = shapeCast S1x64 (m ((c.tc : Thread nD τ).loc main_arg6)) shapeCasts_S64_S1x64 := by
    unfold V hostOps0
    after_results_simp
    try rfl
  rw [e]
  pointwise
  try rfl

/-- Window 9's array read at an index is argument 8's entry. -/
theorem arr_be (j : Fin 64) : V m c main_v9 (ix2 0 j) = (kerNet m c).be j := by
  have e : V m c main_v9 = shapeCast S1x64 (m ((c.tc : Thread nD τ).loc main_arg8)) shapeCasts_S64_S1x64 := by
    unfold V hostOps0
    after_results_simp
    try rfl
  rw [e]
  pointwise
  try rfl

/-- Window 10's array read at an index is argument 10's entry. -/
theorem arr_bf (j : Fin 64) : V m c main_v10 (ix2 0 j) = (kerNet m c).bf j := by
  have e : V m c main_v10 = shapeCast S1x64 (m ((c.tc : Thread nD τ).loc main_arg10)) shapeCasts_S64_S1x64 := by
    unfold V hostOps0
    after_results_simp
    try rfl
  rw [e]
  pointwise
  try rfl

/-- Window 11's array read at an index is argument 12's entry. -/
theorem arr_bev (j : Fin 64) : V m c main_v11 (ix2 0 j) = (kerNet m c).bev j := by
  have e : V m c main_v11 = shapeCast S1x64 (m ((c.tc : Thread nD τ).loc main_arg12)) shapeCasts_S64_S1x64 := by
    unfold V hostOps0
    after_results_simp
    try rfl
  rw [e]
  pointwise
  try rfl

/-- Window 12's array read at an index is argument 14's entry. -/
theorem arr_bfe (j : Fin 64) : V m c main_v12 (ix2 0 j) = (kerNet m c).bfe j := by
  have e : V m c main_v12 = shapeCast S1x64 (m ((c.tc : Thread nD τ).loc main_arg14)) shapeCasts_S64_S1x64 := by
    unfold V hostOps0
    after_results_simp
    try rfl
  rw [e]
  pointwise
  try rfl

/-- Window 13's array read at an index is argument 15's entry. -/
theorem arr_Wl (j : Fin 64) (k : Fin 64) : V m c main_v13 (ix2 k j) = (kerNet m c).Wl j k := by
  have e : V m c main_v13 = transpose S64x64 [1, 0] (m ((c.tc : Thread nD τ).loc main_arg15)) transposes_S64x64_S64x64_1_0 := by
    unfold V hostOps0
    after_results_simp
    try rfl
  rw [e]
  pointwise
  try rfl

/-- Window 14's array read at an index is argument 16's entry. -/
theorem arr_bl (j : Fin 64) : V m c main_v14 (ix2 0 j) = (kerNet m c).bl j := by
  have e : V m c main_v14 = shapeCast S1x64 (m ((c.tc : Thread nD τ).loc main_arg16)) shapeCasts_S64_S1x64 := by
    unfold V hostOps0
    after_results_simp
    try rfl
  rw [e]
  pointwise
  try rfl

/-! ## Each operand's block is its whole array -/

/-- Window 0's block is its array. -/
theorem blk_xv : iblk m c 0 t0_0 = V m c main_v0 := by
  blk_ext! [iblk, index_zero t0_0]

/-- Window 1's block is its array. -/
theorem blk_xe : iblk m c 1 t0_0 = V m c main_v1 := by
  blk_ext! [iblk, index_zero t0_0]

/-- Window 2's block is its array. -/
theorem blk_xf : iblk m c 2 t0_0 = V m c main_v2 := by
  blk_ext! [iblk, index_zero t0_0]

/-- Window 3's block is its array. -/
theorem blk_Wv : iblk m c 3 t0_0 = V m c main_v3 := by
  blk_ext! [iblk, index_zero t0_0]

/-- Window 4's block is its array. -/
theorem blk_We : iblk m c 4 t0_0 = V m c main_v4 := by
  blk_ext! [iblk, index_zero t0_0]

/-- Window 5's block is its array. -/
theorem blk_Wf : iblk m c 5 t0_0 = V m c main_v5 := by
  blk_ext! [iblk, index_zero t0_0]

/-- Window 6's block is its array. -/
theorem blk_Wev : iblk m c 6 t0_0 = V m c main_v6 := by
  blk_ext! [iblk, index_zero t0_0]

/-- Window 7's block is its array. -/
theorem blk_Wfe : iblk m c 7 t0_0 = V m c main_v7 := by
  blk_ext! [iblk, index_zero t0_0]

/-- Window 8's block is its array. -/
theorem blk_bv : iblk m c 8 t0_0 = V m c main_v8 := by
  blk_ext! [iblk, index_zero t0_0]

/-- Window 9's block is its array. -/
theorem blk_be : iblk m c 9 t0_0 = V m c main_v9 := by
  blk_ext! [iblk, index_zero t0_0]

/-- Window 10's block is its array. -/
theorem blk_bf : iblk m c 10 t0_0 = V m c main_v10 := by
  blk_ext! [iblk, index_zero t0_0]

/-- Window 11's block is its array. -/
theorem blk_bev : iblk m c 11 t0_0 = V m c main_v11 := by
  blk_ext! [iblk, index_zero t0_0]

/-- Window 12's block is its array. -/
theorem blk_bfe : iblk m c 12 t0_0 = V m c main_v12 := by
  blk_ext! [iblk, index_zero t0_0]

/-- Window 13's block is its array. -/
theorem blk_Wl : iblk m c 13 t0_0 = V m c main_v13 := by
  blk_ext! [iblk, index_zero t0_0]

/-- Window 14's block is its array. -/
theorem blk_bl : iblk m c 14 t0_0 = V m c main_v14 := by
  blk_ext! [iblk, index_zero t0_0]

/-- What the staged operands and the two matrices hold is the network's arguments. -/
theorem reads : Reads c (stg t0_0) (ins m c t0_0) (kerNet m c) (matE m c) (matV m c) where
  xv r k := by dsimp only; rw [View.read_rep, blk_xv, arr_xv]
  xe r k := by dsimp only; rw [View.read_rep, blk_xe, arr_xe]
  xf r k := by dsimp only; rw [View.read_rep, blk_xf, arr_xf]
  Wv j k := by dsimp only; rw [View.read_rep, blk_Wv, arr_Wv]
  We j k := by dsimp only; rw [View.read_rep, blk_We, arr_We]
  Wf j k := by dsimp only; rw [View.read_rep, blk_Wf, arr_Wf]
  Wev j k := by dsimp only; rw [View.read_rep, blk_Wev, arr_Wev]
  Wfe j k := by dsimp only; rw [View.read_rep, blk_Wfe, arr_Wfe]
  bv j := by dsimp only; rw [View.read_rep, blk_bv, arr_bv]
  be j := by dsimp only; rw [View.read_rep, blk_be, arr_be]
  bf j := by dsimp only; rw [View.read_rep, blk_bf, arr_bf]
  bev j := by dsimp only; rw [View.read_rep, blk_bev, arr_bev]
  bfe j := by dsimp only; rw [View.read_rep, blk_bfe, arr_bfe]
  Wl j k := by dsimp only; rw [View.read_rep, blk_Wl, arr_Wl]
  bl j := by dsimp only; rw [View.read_rep, blk_bl, arr_bl]
  Ge r l := congrFun (V_main_arg4 m c) (ix2 r l)
  Gv r l := congrFun (V_main_arg3 m c) (ix2 r l)

/-- The kernel's named constant stands for the reciprocal of the number of cells. -/
theorem inv_cells : Named.named (F := Ideal) κ "inv_cells" (φ := .f32) 0x382AAAAB#32 = ((24576⁻¹ : ℝ) : EReal) :=
  IdealRules.named_const.ideal_named_scalar _ _ _ _ rfl

/-- An index of the result's one row is its column's. -/
theorem idx_row (i : S1x64.Idx) : ∃ j : Fin 64, i = ix2 0 j :=
  ⟨i 1, funext fun a => by fin_cases a; exacts [Subsingleton.elim (α := Fin 1) _ _, rfl]⟩

/-- The result array at the end of the kernel's run: the network's result. -/
theorem final (j : Fin 64) : (dats m 0 c).arrAt 15 cfg0.N (ix2 0 j) = (kerNet m c).out j := by
  have e : (dats m 0 c).arrAt 15 cfg0.N = rowOut c (stg t0_0) (ins m c t0_0) (matE m c) (matV m c) := by
    refine (dats m 0 c).arrAt_eq_of_after_last 15 t0_0 (by decide +kernel) _ fun j => ?_
    blk_simp
    rw [after_w15]
    unfold outAt
    blk_ext [index_zero t0_0]
  rw [e]
  exact rowOut_at (reads m c) j inv_cells

end Cert.Proof.Val

end
-- ==== Proof.Val.Consts.lean ====
/-
  The float constants of the two programs as the extended reals their patterns denote.
-/
module

public import Idealize.ShloMosaic.PureOps.Ideal

@[expose] public section

noncomputable section

namespace Cert.Proof.Val

open Idealize.ShloMosaic

/-- `24576.0`, the number of cells, which the reference divides by. -/
theorem ofBits_cells : Ideal.ofBits .f32 0x46C00000#32 = ((24576 : ℝ) : EReal) := by
  simp [Ideal.ofBits, Ideal.ieee, -EReal.coe_mul]; norm_num

end Cert.Proof.Val

end
-- ==== Proof.Val.Ref.lean ====
/-
  What the reference computes: its result read at an index is the network's.
-/
module

public import proofs.«01_k».proof.Proof.Val.Math
public import proofs.«01_k».proof.Proof.Val.Consts
public import proofs.«01_k».proof.Proof.Gen.ReferenceIdeal.Run
public import Idealize.ShloMosaic.Lib.Pointwise

@[expose] public section

noncomputable section

namespace Cert.Proof.Val

open Cert.ReferenceIdeal Cert.ReferenceIdeal.Gen Idealize.ShloMosaic Idealize.ShloMosaic.TcCoe

variable (m : (ℓ : Loc nD τ sig) → Buf (Elt Ideal) ℓ) (c : Dev nD)

/-- The reference's arguments as the network's. -/
def refNet : Net where
  xv r k := m ((c.tc : Thread nD τ).loc main_arg0) (ix3 0 r k)
  xe r k := m ((c.tc : Thread nD τ).loc main_arg1) (ix3 0 r k)
  xf r k := m ((c.tc : Thread nD τ).loc main_arg2) (ix3 0 r k)
  Gv r k := m ((c.tc : Thread nD τ).loc main_arg3) (ix2 r k)
  Ge r k := m ((c.tc : Thread nD τ).loc main_arg4) (ix2 r k)
  Wv r k := m ((c.tc : Thread nD τ).loc main_arg5) (ix2 r k)
  bv r := m ((c.tc : Thread nD τ).loc main_arg6) (ix1 r)
  We r k := m ((c.tc : Thread nD τ).loc main_arg7) (ix2 r k)
  be r := m ((c.tc : Thread nD τ).loc main_arg8) (ix1 r)
  Wf r k := m ((c.tc : Thread nD τ).loc main_arg9) (ix2 r k)
  bf r := m ((c.tc : Thread nD τ).loc main_arg10) (ix1 r)
  Wev r k := m ((c.tc : Thread nD τ).loc main_arg11) (ix2 r k)
  bev r := m ((c.tc : Thread nD τ).loc main_arg12) (ix1 r)
  Wfe r k := m ((c.tc : Thread nD τ).loc main_arg13) (ix2 r k)
  bfe r := m ((c.tc : Thread nD τ).loc main_arg14) (ix1 r)
  Wl r k := m ((c.tc : Thread nD τ).loc main_arg15) (ix2 r k)
  bl r := m ((c.tc : Thread nD τ).loc main_arg16) (ix1 r)

/-- The reference's result at column `j` is the network's. -/
theorem ref_value (j : Fin 64) : Value.res_main_v55 m c (ix2 0 j) = (refNet m c).out j := by
  pointwise [Value.res_main_v55]
  refine congrArg (· + (refNet m c).bl j) (Finset.sum_congr rfl fun k _ => ?_)
  refine congrArg (fun y => max y 0 * (refNet m c).Wl j k) ?_
  rw [ofBits_cells]
  refine (div_cells _).trans (congrArg (· * ((24576⁻¹ : ℝ) : EReal)) ?_)
  exact sum_cells (fun r => leaky ((refNet m c).vert r k)) (fun r => leaky ((refNet m c).edge r k)) (fun r => leaky ((refNet m c).face r k))

end Cert.Proof.Val

end
-- ==== Proof.Val.Claims.lean ====
/-
  The claims on values: the named constant's meaning, and the equation of the kernel's result and the reference's.
-/
module

public import proofs.«01_k».proof.Defs
public import proofs.«01_k».proof.Proof.Val.Kernel
public import proofs.«01_k».proof.Proof.Val.Ref
public import proofs.«01_k».proof.Proof.Gen.KernelIdeal
public import proofs.«01_k».proof.Proof.Gen.ReferenceIdeal
public import Idealize.ShloMosaic.Lib.Quiescent

@[expose] public section

noncomputable section

namespace Cert.Proof.Val

open Idealize.ShloMosaic Idealize.ShloMosaic.TcCoe Idealize.SL.Sem

/-- The reference's run leaves the arguments unchanged and every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's constant is the rounded reciprocal of the number of cells. -/
theorem preserves : Cert.preserves_Kernel_KernelIdeal :=
  IdealRules.named_const.statement Cert.KernelIdeal.κ "inv_cells" .f32 0x382AAAAB#32 ((24576⁻¹ : ℝ) : EReal) rfl

/-- The kernel's result and the reference's are one, where the arguments agree. -/
theorem algebraic : Cert.algebraic_KernelIdeal_ReferenceIdeal := by
  intro m ρ m' ρ' _ hagree
  have nets : ∀ c, refNet m' c = kerNet m c := fun c => by
    obtain ⟨h0, h1, h2, h3, h4, h5, h6, h7, h8, h9, h10, h11, h12, h13, h14, h15, h16⟩ := hagree c
    unfold refNet kerNet
    rw [h0, h1, h2, h3, h4, h5, h6, h7, h8, h9, h10, h11, h12, h13, h14, h15, h16]
  have value : ∀ c, (PI.dats (F := Ideal) m 0 c).arrAt 15 Cert.KernelIdeal.cfg0.N = Cert.ReferenceIdeal.Value.res_main_v55 m' c := fun c => by
    funext i
    obtain ⟨j, rfl⟩ := idx_row i
    exact (final m c j).trans (((congrArg (fun n : Net => n.out j) (nets c)).symm).trans (ref_value m' c j).symm)
  refine ⟨fun c => Cert.ReferenceIdeal.Value.res_main_v55 m' c, ?_, Cert.ReferenceIdeal.Value.run (F := Ideal) m' ρ'⟩
  refine (θ_run Cert.KernelIdeal.defs _ _).mono (fun r h c => ?_) (PI.run_main (F := Ideal) m ρ)
  exact ⟨((h.1 c).1 15).trans (value c), PI.kept_args m (h.1 c).2⟩

end Cert.Proof.Val

end
-- ==== Proof.lean ====
/-
  The claim, put together: the two kernels' frames, the reference's frame, the named constant, and the equation of the two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.P.Run
public import proofs.«01_k».proof.Proof.PI.Run
public import proofs.«01_k».proof.Proof.Val.Claims

@[expose] public section

noncomputable section

namespace Cert.Proof

open Idealize.ShloMosaic

/-- The kernel in float arithmetic leaves its arguments unchanged and every semaphore at zero. -/
theorem frame_kernel : Cert.quiescent_Kernel := fun m ρ _ => P.frame (F := Bits) m ρ

/-- So does the kernel over the extended reals. -/
theorem frame_ideal : Cert.quiescent_KernelIdeal := fun m ρ _ => PI.frame (F := Ideal) m ρ

/-- All five claims. -/
theorem claim : Cert.Claim :=
  ⟨Cert.Kernel.Gen.facts, Cert.KernelIdeal.Gen.facts, Cert.ReferenceIdeal.Gen.facts,
    frame_kernel, frame_ideal, Val.frame_reference, Val.preserves, Val.algebraic⟩

end Cert.Proof

end
